-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_DistinctIdeal (m : (ℓ : Loc Cert.DistinctIdeal.nD Cert.DistinctIdeal.τ Cert.DistinctIdeal.sig) → Buf (Elt Ideal) ℓ) : Prop :=
  True

def Pre_DistinctIdeal_eight_differ [hPre_eight_differ : Cert.Pre_eight_differ.Facts] (m : (ℓ : Loc Cert.DistinctIdeal.nD Cert.DistinctIdeal.τ Cert.DistinctIdeal.sig) → Buf (Elt Ideal) ℓ) : Prop :=
  ∀ c : Dev Cert.DistinctIdeal.nD,
    (Cert.Pre_eight_differ.fn (F := Ideal) (m ((c.tc : Thread Cert.DistinctIdeal.nD Cert.DistinctIdeal.τ).loc Cert.DistinctIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_eight_differ [hPre_eight_differ : Cert.Pre_eight_differ.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_eight_differ.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_DistinctIdeal [hDistinctIdeal : Cert.DistinctIdeal.Facts] : Prop :=
  ∀ (m : (ℓ : Loc Cert.DistinctIdeal.nD Cert.DistinctIdeal.τ Cert.DistinctIdeal.sig) → Buf (Elt Ideal) ℓ) (g : Dev Cert.DistinctIdeal.nD → PrngReg), Pre_DistinctIdeal m →
    θ_run (Cert.DistinctIdeal.defs (F := Ideal)) (onTc (τ := Cert.DistinctIdeal.τ) (Cert.DistinctIdeal.main (F := Ideal))) ⟨m, fun _ => 0, g⟩ (fun r => (∀ c : Dev Cert.DistinctIdeal.nD,
      r.2.mem ((c.tc : Thread Cert.DistinctIdeal.nD Cert.DistinctIdeal.τ).loc Cert.DistinctIdeal.main_arg0) = m ((c.tc : Thread Cert.DistinctIdeal.nD Cert.DistinctIdeal.τ).loc Cert.DistinctIdeal.main_arg0))
      ∧ r.2.sem = fun _ => 0)

def quiescent_DistinctIdeal_pre_eight_differ [hDistinctIdeal : Cert.DistinctIdeal.Facts] [hPre_eight_differ : Cert.Pre_eight_differ.Facts] : Prop :=
  ∀ (m : (ℓ : Loc Cert.DistinctIdeal.nD Cert.DistinctIdeal.τ Cert.DistinctIdeal.sig) → Buf (Elt Ideal) ℓ) (g : Dev Cert.DistinctIdeal.nD → PrngReg), Pre_DistinctIdeal_eight_differ m →
    θ_run (Cert.DistinctIdeal.defs (F := Ideal)) (onTc (τ := Cert.DistinctIdeal.τ) (Cert.DistinctIdeal.main (F := Ideal))) ⟨m, fun _ => 0, g⟩ (fun r => (∀ c : Dev Cert.DistinctIdeal.nD,
      r.2.mem ((c.tc : Thread Cert.DistinctIdeal.nD Cert.DistinctIdeal.τ).loc Cert.DistinctIdeal.main_arg0) = m ((c.tc : Thread Cert.DistinctIdeal.nD Cert.DistinctIdeal.τ).loc Cert.DistinctIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_eight_differ [hReferenceIdeal : Cert.ReferenceIdeal.Facts] [hPre_eight_differ : Cert.Pre_eight_differ.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_eight_differ m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_DistinctIdeal [hKernelIdeal : Cert.KernelIdeal.Facts] [hDistinctIdeal : Cert.DistinctIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.DistinctIdeal.nD Cert.DistinctIdeal.τ Cert.DistinctIdeal.sig) → Buf (Elt Ideal) ℓ) (g' : Dev Cert.DistinctIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 1024]⟩ ⟨2, ![256, 32768]⟩ 1 32 c (m' (((0 : Dev Cert.DistinctIdeal.nD).tc : Thread Cert.DistinctIdeal.nD Cert.DistinctIdeal.τ).loc Cert.DistinctIdeal.main_arg0))) →
    ∃ (v0 : Buf (Elt Ideal) (((0 : Dev Cert.DistinctIdeal.nD).tc : Thread Cert.DistinctIdeal.nD Cert.DistinctIdeal.τ).loc Cert.DistinctIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.DistinctIdeal.defs (F := Ideal)) (onTc (τ := Cert.DistinctIdeal.τ) (Cert.DistinctIdeal.main (F := Ideal))) ⟨m', fun _ => 0, g'⟩ (fun r =>
          r.2.mem (((0 : Dev Cert.DistinctIdeal.nD).tc : Thread Cert.DistinctIdeal.nD Cert.DistinctIdeal.τ).loc Cert.DistinctIdeal.main_v12) = v0
          ∧ r.2.mem (((0 : Dev Cert.DistinctIdeal.nD).tc : Thread Cert.DistinctIdeal.nD Cert.DistinctIdeal.τ).loc Cert.DistinctIdeal.main_arg0) = m' (((0 : Dev Cert.DistinctIdeal.nD).tc : Thread Cert.DistinctIdeal.nD Cert.DistinctIdeal.τ).loc Cert.DistinctIdeal.main_arg0))

def algebraic_DistinctIdeal_ReferenceIdeal_pre_eight_differ [hDistinctIdeal : Cert.DistinctIdeal.Facts] [hReferenceIdeal : Cert.ReferenceIdeal.Facts] [hPre_eight_differ : Cert.Pre_eight_differ.Facts] : Prop :=
  ∀ (m : (ℓ : Loc Cert.DistinctIdeal.nD Cert.DistinctIdeal.τ Cert.DistinctIdeal.sig) → Buf (Elt Ideal) ℓ) (g : Dev Cert.DistinctIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_DistinctIdeal_eight_differ m →
    (∀ c : Dev Cert.DistinctIdeal.nD,
      m' ((c.tc : Thread Cert.ReferenceIdeal.nD Cert.ReferenceIdeal.τ).loc Cert.ReferenceIdeal.main_arg0) = m ((c.tc : Thread Cert.DistinctIdeal.nD Cert.DistinctIdeal.τ).loc Cert.DistinctIdeal.main_arg0)) →
    ∃ (v0 : (c : Dev Cert.DistinctIdeal.nD) → Buf (Elt Ideal) ((c.tc : Thread Cert.DistinctIdeal.nD Cert.DistinctIdeal.τ).loc Cert.DistinctIdeal.main_v12)),
      θ_run (Cert.DistinctIdeal.defs (F := Ideal)) (onTc (τ := Cert.DistinctIdeal.τ) (Cert.DistinctIdeal.main (F := Ideal))) ⟨m, fun _ => 0, g⟩ (fun r => ∀ c : Dev Cert.DistinctIdeal.nD,
          r.2.mem ((c.tc : Thread Cert.DistinctIdeal.nD Cert.DistinctIdeal.τ).loc Cert.DistinctIdeal.main_v12) = v0 c
          ∧ r.2.mem ((c.tc : Thread Cert.DistinctIdeal.nD Cert.DistinctIdeal.τ).loc Cert.DistinctIdeal.main_arg0) = m ((c.tc : Thread Cert.DistinctIdeal.nD Cert.DistinctIdeal.τ).loc Cert.DistinctIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hDistinctIdeal : Cert.DistinctIdeal.Facts) (hReferenceIdeal : Cert.ReferenceIdeal.Facts) (hPre_eight_differ : Cert.Pre_eight_differ.Facts),
    quiescent_Kernel (hKernel := hKernel)
    ∧ quiescent_KernelIdeal (hKernelIdeal := hKernelIdeal)
    ∧ quiescent_DistinctIdeal (hDistinctIdeal := hDistinctIdeal)
    ∧ quiescent_DistinctIdeal_pre_eight_differ (hDistinctIdeal := hDistinctIdeal) (hPre_eight_differ := hPre_eight_differ)
    ∧ quiescent_ReferenceIdeal (hReferenceIdeal := hReferenceIdeal)
    ∧ quiescent_ReferenceIdeal_pre_eight_differ (hReferenceIdeal := hReferenceIdeal) (hPre_eight_differ := hPre_eight_differ)
    ∧ preserves_Kernel_KernelIdeal
    ∧ algebraic_KernelIdeal_DistinctIdeal (hKernelIdeal := hKernelIdeal) (hDistinctIdeal := hDistinctIdeal)
    ∧ algebraic_DistinctIdeal_ReferenceIdeal_pre_eight_differ (hDistinctIdeal := hDistinctIdeal) (hReferenceIdeal := hReferenceIdeal) (hPre_eight_differ := hPre_eight_differ)
-- ==== Pre_eight_differ.lean ====
abbrev S256x32768 : Shape := ⟨2, ![256, 32768]⟩
abbrev S256x7 : Shape := ⟨2, ![256, 7]⟩
abbrev S_ : Shape := ⟨0, ![]⟩

class Facts : Prop where
  slices_S256x32768_S256x7_0_32760 : S256x32768.Slices ![0, 32760] S256x7
  slices_S256x32768_S256x7_0_32761 : S256x32768.Slices ![0, 32761] S256x7
  bcast_S_S256x7 : S_.BroadcastsInDim S256x7 (![] : Fin 0 → Fin S256x7.rank)

variable [Facts]

variable {F : FTy → Type} [FloatOps F]
def comparator_f32_d1 : F .f32 → F .f32 → BitVec 1 :=
  fun l r =>
    let cst := FloatOps.ofBits .f32 0x00000000#32
    let v1 := FloatOps.cmpf .oeq l cst
    let cst_0 := FloatOps.ofBits .f32 0x00000000#32
    let v2 := Scalar.select v1 cst_0 l
    let v3 := FloatOps.cmpf .une l l
    let cst_1 := FloatOps.ofBits .f32 0x7FC00000#32
    let v4 := Scalar.select v3 cst_1 v2
    let cst_2 := FloatOps.ofBits .f32 0x00000000#32
    let v5 := FloatOps.cmpf .oeq r cst_2
    let cst_3 := FloatOps.ofBits .f32 0x00000000#32
    let v6 := Scalar.select v5 cst_3 r
    let v7 := FloatOps.cmpf .une r r
    let cst_4 := FloatOps.ofBits .f32 0x7FC00000#32
    let v8 := Scalar.select v7 cst_4 v6
    let v9 := FloatOps.cmpfTotal .lt v4 v8
    v9

def fn_sort {F : FTy → Type} [FloatOps F] (arg0 : FVec F S256x32768 .f32) : FVec F S256x32768 .f32 :=
  let v0 : FVec F S256x32768 .f32 := (fun x => Host.sort S256x32768 1 comparator_f32_d1 x) arg0
  v0

def fn {F : FTy → Type} [FloatOps F] (main_arg0 : FVec F S256x32768 .f32) : IVec S256x7 1 :=
  let main_v0 : FVec F S256x32768 .f32 := fn_sort (F := F) main_arg0
  let main_v1 : FVec F S256x7 .f32 := (extractStridedSlice S256x7 ![0, 32760] · slices_S256x32768_S256x7_0_32760) main_v0
  let main_v2 : FVec F S256x7 .f32 := (extractStridedSlice S256x7 ![0, 32761] · slices_S256x32768_S256x7_0_32761) main_v0
  let main_v3 : IVec S256x7 1 := cmpf .une main_v1 main_v2
  let main_v4 : FVec F S256x7 .f32 := (extractStridedSlice S256x7 ![0, 32760] · slices_S256x32768_S256x7_0_32760) main_v0
  let main_cst : FVec F S_ .f32 := constant S_ .f32 0xFF800000#32
  let main_v5 : FVec F S256x7 .f32 := broadcastInDim S256x7 ![] bcast_S_S256x7 main_cst
  let main_v6 : IVec S256x7 1 := cmpf .oeq main_v4 main_v5
  let main_v7 : IVec S256x7 1 := ori main_v3 main_v6
  main_v7
-- ==== Kernel.lean ====
abbrev S256x1024 : Shape := ⟨2, ![256, 1024]⟩
abbrev S256x8 : Shape := ⟨2, ![256, 8]⟩
abbrev S32x8x256 : Shape := ⟨3, ![32, 8, 256]⟩
abbrev S32 : Shape := ⟨1, ![32]⟩
abbrev S_ : Shape := ⟨0, ![]⟩
abbrev S256 : Shape := ⟨1, ![256]⟩
abbrev S256x1 : Shape := ⟨2, ![256, 1]⟩
abbrev S8x256 : Shape := ⟨2, ![8, 256]⟩
abbrev S1x8x256 : Shape := ⟨3, ![1, 8, 256]⟩
abbrev S1 : Shape := ⟨1, ![1]⟩
abbrev S256x256 : Shape := ⟨2, ![256, 256]⟩
abbrev S1x256 : Shape := ⟨2, ![1, 256]⟩

abbrev nBuf : Space → Nat
  | .hbm => 2
  | .vmem => 3
  | .smem => 0
  | _ => 0

abbrev bufTy : (tb : Table) → Fin (tcTables nBuf tb) → BufTy
  | .hbm, ⟨0, _⟩ => ⟨S256x1024, .f32⟩
  | .hbm, ⟨1, _⟩ => ⟨S256x8, .f32⟩
  | .local _ .vmem, ⟨0, _⟩ => ⟨S256x1024, .f32⟩
  | .local _ .vmem, ⟨1, _⟩ => ⟨S256x8, .f32⟩
  | .local _ .vmem, ⟨2, _⟩ => ⟨S32x8x256, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 1 66 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let v5 : BitVec 32 := Scalar.remsi v4 c32_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v8 : BitVec 32 := Scalar.addi v2 c2_i32
  let c32_i32_4 : BitVec 32 := 32#32
  let v9 : BitVec 32 := Scalar.remsi v8 c32_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v12 : BitVec 32 := Scalar.addi v2 c3_i32
  let c32_i32_8 : BitVec 32 := 32#32
  let v13 : BitVec 32 := Scalar.remsi v12 c32_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v16 : BitVec 32 := Scalar.addi v2 c4_i32
  let c32_i32_12 : BitVec 32 := 32#32
  let v17 : BitVec 32 := Scalar.remsi v16 c32_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v20 : BitVec 32 := Scalar.addi v2 c5_i32
  let c32_i32_16 : BitVec 32 := 32#32
  let v21 : BitVec 32 := Scalar.remsi v20 c32_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v24 : BitVec 32 := Scalar.addi v2 c6_i32
  let c32_i32_20 : BitVec 32 := 32#32
  let v25 : BitVec 32 := Scalar.remsi v24 c32_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v28 : BitVec 32 := Scalar.addi v2 c7_i32
  let c32_i32_24 : BitVec 32 := 32#32
  let v29 : BitVec 32 := Scalar.remsi v28 c32_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v32 : BitVec 32 := Scalar.addi v2 c8_i32
  let c32_i32_28 : BitVec 32 := 32#32
  let v33 : BitVec 32 := Scalar.remsi v32 c32_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v36 : BitVec 32 := Scalar.addi v2 c9_i32
  let c32_i32_32 : BitVec 32 := 32#32
  let v37 : BitVec 32 := Scalar.remsi v36 c32_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v40 : BitVec 32 := Scalar.addi v2 c10_i32
  let c32_i32_36 : BitVec 32 := 32#32
  let v41 : BitVec 32 := Scalar.remsi v40 c32_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v44 : BitVec 32 := Scalar.addi v2 c11_i32
  let c32_i32_40 : BitVec 32 := 32#32
  let v45 : BitVec 32 := Scalar.remsi v44 c32_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v48 : BitVec 32 := Scalar.addi v2 c12_i32
  let c32_i32_44 : BitVec 32 := 32#32
  let v49 : BitVec 32 := Scalar.remsi v48 c32_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v52 : BitVec 32 := Scalar.addi v2 c13_i32
  let c32_i32_48 : BitVec 32 := 32#32
  let v53 : BitVec 32 := Scalar.remsi v52 c32_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v56 : BitVec 32 := Scalar.addi v2 c14_i32
  let c32_i32_52 : BitVec 32 := 32#32
  let v57 : BitVec 32 := Scalar.remsi v56 c32_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v60 : BitVec 32 := Scalar.addi v2 c15_i32
  let c32_i32_56 : BitVec 32 := 32#32
  let v61 : BitVec 32 := Scalar.remsi v60 c32_i32_56
  let c1_i32_58 : BitVec 32 := 1#32
  let v62 : BitVec 32 := Scalar.muli v61 c1_i32_58
  let v63 : BitVec 32 := Scalar.addi c0_i32_59 v62
  v63.toNat
def k0_dev16 (d0 : Dev nD) : Nat :=
  let c0_i32_63 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v64 : BitVec 32 := Scalar.addi v2 c16_i32
  let c32_i32_60 : BitVec 32 := 32#32
  let v65 : BitVec 32 := Scalar.remsi v64 c32_i32_60
  let c1_i32_62 : BitVec 32 := 1#32
  let v66 : BitVec 32 := Scalar.muli v65 c1_i32_62
  let v67 : BitVec 32 := Scalar.addi c0_i32_63 v66
  v67.toNat
def k0_dev17 (d0 : Dev nD) : Nat :=
  let c0_i32_67 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v68 : BitVec 32 := Scalar.addi v2 c17_i32
  let c32_i32_64 : BitVec 32 := 32#32
  let v69 : BitVec 32 := Scalar.remsi v68 c32_i32_64
  let c1_i32_66 : BitVec 32 := 1#32
  let v70 : BitVec 32 := Scalar.muli v69 c1_i32_66
  let v71 : BitVec 32 := Scalar.addi c0_i32_67 v70
  v71.toNat
def k0_dev18 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v72 : BitVec 32 := Scalar.addi v2 c18_i32
  let c32_i32_68 : BitVec 32 := 32#32
  let v73 : BitVec 32 := Scalar.remsi v72 c32_i32_68
  let c1_i32_70 : BitVec 32 := 1#32
  let v74 : BitVec 32 := Scalar.muli v73 c1_i32_70
  let v75 : BitVec 32 := Scalar.addi c0_i32_71 v74
  v75.toNat
def k0_dev19 (d0 : Dev nD) : Nat :=
  let c0_i32_75 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v76 : BitVec 32 := Scalar.addi v2 c19_i32
  let c32_i32_72 : BitVec 32 := 32#32
  let v77 : BitVec 32 := Scalar.remsi v76 c32_i32_72
  let c1_i32_74 : BitVec 32 := 1#32
  let v78 : BitVec 32 := Scalar.muli v77 c1_i32_74
  let v79 : BitVec 32 := Scalar.addi c0_i32_75 v78
  v79.toNat
def k0_dev20 (d0 : Dev nD) : Nat :=
  let c0_i32_79 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v80 : BitVec 32 := Scalar.addi v2 c20_i32
  let c32_i32_76 : BitVec 32 := 32#32
  let v81 : BitVec 32 := Scalar.remsi v80 c32_i32_76
  let c1_i32_78 : BitVec 32 := 1#32
  let v82 : BitVec 32 := Scalar.muli v81 c1_i32_78
  let v83 : BitVec 32 := Scalar.addi c0_i32_79 v82
  v83.toNat
def k0_dev21 (d0 : Dev nD) : Nat :=
  let c0_i32_83 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v84 : BitVec 32 := Scalar.addi v2 c21_i32
  let c32_i32_80 : BitVec 32 := 32#32
  let v85 : BitVec 32 := Scalar.remsi v84 c32_i32_80
  let c1_i32_82 : BitVec 32 := 1#32
  let v86 : BitVec 32 := Scalar.muli v85 c1_i32_82
  let v87 : BitVec 32 := Scalar.addi c0_i32_83 v86
  v87.toNat
def k0_dev22 (d0 : Dev nD) : Nat :=
  let c0_i32_87 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v88 : BitVec 32 := Scalar.addi v2 c22_i32
  let c32_i32_84 : BitVec 32 := 32#32
  let v89 : BitVec 32 := Scalar.remsi v88 c32_i32_84
  let c1_i32_86 : BitVec 32 := 1#32
  let v90 : BitVec 32 := Scalar.muli v89 c1_i32_86
  let v91 : BitVec 32 := Scalar.addi c0_i32_87 v90
  v91.toNat
def k0_dev23 (d0 : Dev nD) : Nat :=
  let c0_i32_91 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v92 : BitVec 32 := Scalar.addi v2 c23_i32
  let c32_i32_88 : BitVec 32 := 32#32
  let v93 : BitVec 32 := Scalar.remsi v92 c32_i32_88
  let c1_i32_90 : BitVec 32 := 1#32
  let v94 : BitVec 32 := Scalar.muli v93 c1_i32_90
  let v95 : BitVec 32 := Scalar.addi c0_i32_91 v94
  v95.toNat
def k0_dev24 (d0 : Dev nD) : Nat :=
  let c0_i32_95 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v96 : BitVec 32 := Scalar.addi v2 c24_i32
  let c32_i32_92 : BitVec 32 := 32#32
  let v97 : BitVec 32 := Scalar.remsi v96 c32_i32_92
  let c1_i32_94 : BitVec 32 := 1#32
  let v98 : BitVec 32 := Scalar.muli v97 c1_i32_94
  let v99 : BitVec 32 := Scalar.addi c0_i32_95 v98
  v99.toNat
def k0_dev25 (d0 : Dev nD) : Nat :=
  let c0_i32_99 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v100 : BitVec 32 := Scalar.addi v2 c25_i32
  let c32_i32_96 : BitVec 32 := 32#32
  let v101 : BitVec 32 := Scalar.remsi v100 c32_i32_96
  let c1_i32_98 : BitVec 32 := 1#32
  let v102 : BitVec 32 := Scalar.muli v101 c1_i32_98
  let v103 : BitVec 32 := Scalar.addi c0_i32_99 v102
  v103.toNat
def k0_dev26 (d0 : Dev nD) : Nat :=
  let c0_i32_103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v104 : BitVec 32 := Scalar.addi v2 c26_i32
  let c32_i32_100 : BitVec 32 := 32#32
  let v105 : BitVec 32 := Scalar.remsi v104 c32_i32_100
  let c1_i32_102 : BitVec 32 := 1#32
  let v106 : BitVec 32 := Scalar.muli v105 c1_i32_102
  let v107 : BitVec 32 := Scalar.addi c0_i32_103 v106
  v107.toNat
def k0_dev27 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v108 : BitVec 32 := Scalar.addi v2 c27_i32
  let c32_i32_104 : BitVec 32 := 32#32
  let v109 : BitVec 32 := Scalar.remsi v108 c32_i32_104
  let c1_i32_106 : BitVec 32 := 1#32
  let v110 : BitVec 32 := Scalar.muli v109 c1_i32_106
  let v111 : BitVec 32 := Scalar.addi c0_i32_107 v110
  v111.toNat
def k0_dev28 (d0 : Dev nD) : Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v112 : BitVec 32 := Scalar.addi v2 c28_i32
  let c32_i32_108 : BitVec 32 := 32#32
  let v113 : BitVec 32 := Scalar.remsi v112 c32_i32_108
  let c1_i32_110 : BitVec 32 := 1#32
  let v114 : BitVec 32 := Scalar.muli v113 c1_i32_110
  let v115 : BitVec 32 := Scalar.addi c0_i32_111 v114
  v115.toNat
def k0_dev29 (d0 : Dev nD) : Nat :=
  let c0_i32_115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v116 : BitVec 32 := Scalar.addi v2 c29_i32
  let c32_i32_112 : BitVec 32 := 32#32
  let v117 : BitVec 32 := Scalar.remsi v116 c32_i32_112
  let c1_i32_114 : BitVec 32 := 1#32
  let v118 : BitVec 32 := Scalar.muli v117 c1_i32_114
  let v119 : BitVec 32 := Scalar.addi c0_i32_115 v118
  v119.toNat
def k0_dev30 (d0 : Dev nD) : Nat :=
  let c0_i32_119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v120 : BitVec 32 := Scalar.addi v2 c30_i32
  let c32_i32_116 : BitVec 32 := 32#32
  let v121 : BitVec 32 := Scalar.remsi v120 c32_i32_116
  let c1_i32_118 : BitVec 32 := 1#32
  let v122 : BitVec 32 := Scalar.muli v121 c1_i32_118
  let v123 : BitVec 32 := Scalar.addi c0_i32_119 v122
  v123.toNat
def k0_dev31 (d0 : Dev nD) : Nat :=
  let c0_i32_123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v124 : BitVec 32 := Scalar.addi v2 c31_i32
  let c32_i32_120 : BitVec 32 := 32#32
  let v125 : BitVec 32 := Scalar.remsi v124 c32_i32_120
  let c1_i32_122 : BitVec 32 := 1#32
  let v126 : BitVec 32 := Scalar.muli v125 c1_i32_122
  let v127 : BitVec 32 := Scalar.addi c0_i32_123 v126
  v127.toNat
def k0_dev32 (d0 : Dev nD) : Nat :=
  let c0_i32_150 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_143 : BitVec 32 := 1#32
  let v179 : BitVec 32 := Scalar.addi v2 c1_i32_143
  let c32_i32_144 : BitVec 32 := 32#32
  let v180 : BitVec 32 := Scalar.remsi v179 c32_i32_144
  let c1_i32_149 : BitVec 32 := 1#32
  let v181 : BitVec 32 := Scalar.muli v180 c1_i32_149
  let v182 : BitVec 32 := Scalar.addi c0_i32_150 v181
  v182.toNat
def k0_dev33 (d0 : Dev nD) : Nat :=
  let c0_i32_162 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_155 : BitVec 32 := 2#32
  let v191 : BitVec 32 := Scalar.addi v2 c2_i32_155
  let c32_i32_156 : BitVec 32 := 32#32
  let v192 : BitVec 32 := Scalar.remsi v191 c32_i32_156
  let c1_i32_161 : BitVec 32 := 1#32
  let v193 : BitVec 32 := Scalar.muli v192 c1_i32_161
  let v194 : BitVec 32 := Scalar.addi c0_i32_162 v193
  v194.toNat
def k0_dev34 (d0 : Dev nD) : Nat :=
  let c0_i32_174 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_167 : BitVec 32 := 3#32
  let v203 : BitVec 32 := Scalar.addi v2 c3_i32_167
  let c32_i32_168 : BitVec 32 := 32#32
  let v204 : BitVec 32 := Scalar.remsi v203 c32_i32_168
  let c1_i32_173 : BitVec 32 := 1#32
  let v205 : BitVec 32 := Scalar.muli v204 c1_i32_173
  let v206 : BitVec 32 := Scalar.addi c0_i32_174 v205
  v206.toNat
def k0_dev35 (d0 : Dev nD) : Nat :=
  let c0_i32_186 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_179 : BitVec 32 := 4#32
  let v215 : BitVec 32 := Scalar.addi v2 c4_i32_179
  let c32_i32_180 : BitVec 32 := 32#32
  let v216 : BitVec 32 := Scalar.remsi v215 c32_i32_180
  let c1_i32_185 : BitVec 32 := 1#32
  let v217 : BitVec 32 := Scalar.muli v216 c1_i32_185
  let v218 : BitVec 32 := Scalar.addi c0_i32_186 v217
  v218.toNat
def k0_dev36 (d0 : Dev nD) : Nat :=
  let c0_i32_198 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_191 : BitVec 32 := 5#32
  let v227 : BitVec 32 := Scalar.addi v2 c5_i32_191
  let c32_i32_192 : BitVec 32 := 32#32
  let v228 : BitVec 32 := Scalar.remsi v227 c32_i32_192
  let c1_i32_197 : BitVec 32 := 1#32
  let v229 : BitVec 32 := Scalar.muli v228 c1_i32_197
  let v230 : BitVec 32 := Scalar.addi c0_i32_198 v229
  v230.toNat
def k0_dev37 (d0 : Dev nD) : Nat :=
  let c0_i32_210 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_203 : BitVec 32 := 6#32
  let v239 : BitVec 32 := Scalar.addi v2 c6_i32_203
  let c32_i32_204 : BitVec 32 := 32#32
  let v240 : BitVec 32 := Scalar.remsi v239 c32_i32_204
  let c1_i32_209 : BitVec 32 := 1#32
  let v241 : BitVec 32 := Scalar.muli v240 c1_i32_209
  let v242 : BitVec 32 := Scalar.addi c0_i32_210 v241
  v242.toNat
def k0_dev38 (d0 : Dev nD) : Nat :=
  let c0_i32_222 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_215 : BitVec 32 := 7#32
  let v251 : BitVec 32 := Scalar.addi v2 c7_i32_215
  let c32_i32_216 : BitVec 32 := 32#32
  let v252 : BitVec 32 := Scalar.remsi v251 c32_i32_216
  let c1_i32_221 : BitVec 32 := 1#32
  let v253 : BitVec 32 := Scalar.muli v252 c1_i32_221
  let v254 : BitVec 32 := Scalar.addi c0_i32_222 v253
  v254.toNat
def k0_dev39 (d0 : Dev nD) : Nat :=
  let c0_i32_234 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_227 : BitVec 32 := 8#32
  let v263 : BitVec 32 := Scalar.addi v2 c8_i32_227
  let c32_i32_228 : BitVec 32 := 32#32
  let v264 : BitVec 32 := Scalar.remsi v263 c32_i32_228
  let c1_i32_233 : BitVec 32 := 1#32
  let v265 : BitVec 32 := Scalar.muli v264 c1_i32_233
  let v266 : BitVec 32 := Scalar.addi c0_i32_234 v265
  v266.toNat
def k0_dev40 (d0 : Dev nD) : Nat :=
  let c0_i32_246 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_239 : BitVec 32 := 9#32
  let v275 : BitVec 32 := Scalar.addi v2 c9_i32_239
  let c32_i32_240 : BitVec 32 := 32#32
  let v276 : BitVec 32 := Scalar.remsi v275 c32_i32_240
  let c1_i32_245 : BitVec 32 := 1#32
  let v277 : BitVec 32 := Scalar.muli v276 c1_i32_245
  let v278 : BitVec 32 := Scalar.addi c0_i32_246 v277
  v278.toNat
def k0_dev41 (d0 : Dev nD) : Nat :=
  let c0_i32_258 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_251 : BitVec 32 := 10#32
  let v287 : BitVec 32 := Scalar.addi v2 c10_i32_251
  let c32_i32_252 : BitVec 32 := 32#32
  let v288 : BitVec 32 := Scalar.remsi v287 c32_i32_252
  let c1_i32_257 : BitVec 32 := 1#32
  let v289 : BitVec 32 := Scalar.muli v288 c1_i32_257
  let v290 : BitVec 32 := Scalar.addi c0_i32_258 v289
  v290.toNat
def k0_dev42 (d0 : Dev nD) : Nat :=
  let c0_i32_270 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_263 : BitVec 32 := 11#32
  let v299 : BitVec 32 := Scalar.addi v2 c11_i32_263
  let c32_i32_264 : BitVec 32 := 32#32
  let v300 : BitVec 32 := Scalar.remsi v299 c32_i32_264
  let c1_i32_269 : BitVec 32 := 1#32
  let v301 : BitVec 32 := Scalar.muli v300 c1_i32_269
  let v302 : BitVec 32 := Scalar.addi c0_i32_270 v301
  v302.toNat
def k0_dev43 (d0 : Dev nD) : Nat :=
  let c0_i32_282 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_275 : BitVec 32 := 12#32
  let v311 : BitVec 32 := Scalar.addi v2 c12_i32_275
  let c32_i32_276 : BitVec 32 := 32#32
  let v312 : BitVec 32 := Scalar.remsi v311 c32_i32_276
  let c1_i32_281 : BitVec 32 := 1#32
  let v313 : BitVec 32 := Scalar.muli v312 c1_i32_281
  let v314 : BitVec 32 := Scalar.addi c0_i32_282 v313
  v314.toNat
def k0_dev44 (d0 : Dev nD) : Nat :=
  let c0_i32_294 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_287 : BitVec 32 := 13#32
  let v323 : BitVec 32 := Scalar.addi v2 c13_i32_287
  let c32_i32_288 : BitVec 32 := 32#32
  let v324 : BitVec 32 := Scalar.remsi v323 c32_i32_288
  let c1_i32_293 : BitVec 32 := 1#32
  let v325 : BitVec 32 := Scalar.muli v324 c1_i32_293
  let v326 : BitVec 32 := Scalar.addi c0_i32_294 v325
  v326.toNat
def k0_dev45 (d0 : Dev nD) : Nat :=
  let c0_i32_306 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_299 : BitVec 32 := 14#32
  let v335 : BitVec 32 := Scalar.addi v2 c14_i32_299
  let c32_i32_300 : BitVec 32 := 32#32
  let v336 : BitVec 32 := Scalar.remsi v335 c32_i32_300
  let c1_i32_305 : BitVec 32 := 1#32
  let v337 : BitVec 32 := Scalar.muli v336 c1_i32_305
  let v338 : BitVec 32 := Scalar.addi c0_i32_306 v337
  v338.toNat
def k0_dev46 (d0 : Dev nD) : Nat :=
  let c0_i32_318 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_311 : BitVec 32 := 15#32
  let v347 : BitVec 32 := Scalar.addi v2 c15_i32_311
  let c32_i32_312 : BitVec 32 := 32#32
  let v348 : BitVec 32 := Scalar.remsi v347 c32_i32_312
  let c1_i32_317 : BitVec 32 := 1#32
  let v349 : BitVec 32 := Scalar.muli v348 c1_i32_317
  let v350 : BitVec 32 := Scalar.addi c0_i32_318 v349
  v350.toNat
def k0_dev47 (d0 : Dev nD) : Nat :=
  let c0_i32_330 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_323 : BitVec 32 := 16#32
  let v359 : BitVec 32 := Scalar.addi v2 c16_i32_323
  let c32_i32_324 : BitVec 32 := 32#32
  let v360 : BitVec 32 := Scalar.remsi v359 c32_i32_324
  let c1_i32_329 : BitVec 32 := 1#32
  let v361 : BitVec 32 := Scalar.muli v360 c1_i32_329
  let v362 : BitVec 32 := Scalar.addi c0_i32_330 v361
  v362.toNat
def k0_dev48 (d0 : Dev nD) : Nat :=
  let c0_i32_342 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_335 : BitVec 32 := 17#32
  let v371 : BitVec 32 := Scalar.addi v2 c17_i32_335
  let c32_i32_336 : BitVec 32 := 32#32
  let v372 : BitVec 32 := Scalar.remsi v371 c32_i32_336
  let c1_i32_341 : BitVec 32 := 1#32
  let v373 : BitVec 32 := Scalar.muli v372 c1_i32_341
  let v374 : BitVec 32 := Scalar.addi c0_i32_342 v373
  v374.toNat
def k0_dev49 (d0 : Dev nD) : Nat :=
  let c0_i32_354 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_347 : BitVec 32 := 18#32
  let v383 : BitVec 32 := Scalar.addi v2 c18_i32_347
  let c32_i32_348 : BitVec 32 := 32#32
  let v384 : BitVec 32 := Scalar.remsi v383 c32_i32_348
  let c1_i32_353 : BitVec 32 := 1#32
  let v385 : BitVec 32 := Scalar.muli v384 c1_i32_353
  let v386 : BitVec 32 := Scalar.addi c0_i32_354 v385
  v386.toNat
def k0_dev50 (d0 : Dev nD) : Nat :=
  let c0_i32_366 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_359 : BitVec 32 := 19#32
  let v395 : BitVec 32 := Scalar.addi v2 c19_i32_359
  let c32_i32_360 : BitVec 32 := 32#32
  let v396 : BitVec 32 := Scalar.remsi v395 c32_i32_360
  let c1_i32_365 : BitVec 32 := 1#32
  let v397 : BitVec 32 := Scalar.muli v396 c1_i32_365
  let v398 : BitVec 32 := Scalar.addi c0_i32_366 v397
  v398.toNat
def k0_dev51 (d0 : Dev nD) : Nat :=
  let c0_i32_378 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_371 : BitVec 32 := 20#32
  let v407 : BitVec 32 := Scalar.addi v2 c20_i32_371
  let c32_i32_372 : BitVec 32 := 32#32
  let v408 : BitVec 32 := Scalar.remsi v407 c32_i32_372
  let c1_i32_377 : BitVec 32 := 1#32
  let v409 : BitVec 32 := Scalar.muli v408 c1_i32_377
  let v410 : BitVec 32 := Scalar.addi c0_i32_378 v409
  v410.toNat
def k0_dev52 (d0 : Dev nD) : Nat :=
  let c0_i32_390 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_383 : BitVec 32 := 21#32
  let v419 : BitVec 32 := Scalar.addi v2 c21_i32_383
  let c32_i32_384 : BitVec 32 := 32#32
  let v420 : BitVec 32 := Scalar.remsi v419 c32_i32_384
  let c1_i32_389 : BitVec 32 := 1#32
  let v421 : BitVec 32 := Scalar.muli v420 c1_i32_389
  let v422 : BitVec 32 := Scalar.addi c0_i32_390 v421
  v422.toNat
def k0_dev53 (d0 : Dev nD) : Nat :=
  let c0_i32_402 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_395 : BitVec 32 := 22#32
  let v431 : BitVec 32 := Scalar.addi v2 c22_i32_395
  let c32_i32_396 : BitVec 32 := 32#32
  let v432 : BitVec 32 := Scalar.remsi v431 c32_i32_396
  let c1_i32_401 : BitVec 32 := 1#32
  let v433 : BitVec 32 := Scalar.muli v432 c1_i32_401
  let v434 : BitVec 32 := Scalar.addi c0_i32_402 v433
  v434.toNat
def k0_dev54 (d0 : Dev nD) : Nat :=
  let c0_i32_414 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_407 : BitVec 32 := 23#32
  let v443 : BitVec 32 := Scalar.addi v2 c23_i32_407
  let c32_i32_408 : BitVec 32 := 32#32
  let v444 : BitVec 32 := Scalar.remsi v443 c32_i32_408
  let c1_i32_413 : BitVec 32 := 1#32
  let v445 : BitVec 32 := Scalar.muli v444 c1_i32_413
  let v446 : BitVec 32 := Scalar.addi c0_i32_414 v445
  v446.toNat
def k0_dev55 (d0 : Dev nD) : Nat :=
  let c0_i32_426 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_419 : BitVec 32 := 24#32
  let v455 : BitVec 32 := Scalar.addi v2 c24_i32_419
  let c32_i32_420 : BitVec 32 := 32#32
  let v456 : BitVec 32 := Scalar.remsi v455 c32_i32_420
  let c1_i32_425 : BitVec 32 := 1#32
  let v457 : BitVec 32 := Scalar.muli v456 c1_i32_425
  let v458 : BitVec 32 := Scalar.addi c0_i32_426 v457
  v458.toNat
def k0_dev56 (d0 : Dev nD) : Nat :=
  let c0_i32_438 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_431 : BitVec 32 := 25#32
  let v467 : BitVec 32 := Scalar.addi v2 c25_i32_431
  let c32_i32_432 : BitVec 32 := 32#32
  let v468 : BitVec 32 := Scalar.remsi v467 c32_i32_432
  let c1_i32_437 : BitVec 32 := 1#32
  let v469 : BitVec 32 := Scalar.muli v468 c1_i32_437
  let v470 : BitVec 32 := Scalar.addi c0_i32_438 v469
  v470.toNat
def k0_dev57 (d0 : Dev nD) : Nat :=
  let c0_i32_450 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_443 : BitVec 32 := 26#32
  let v479 : BitVec 32 := Scalar.addi v2 c26_i32_443
  let c32_i32_444 : BitVec 32 := 32#32
  let v480 : BitVec 32 := Scalar.remsi v479 c32_i32_444
  let c1_i32_449 : BitVec 32 := 1#32
  let v481 : BitVec 32 := Scalar.muli v480 c1_i32_449
  let v482 : BitVec 32 := Scalar.addi c0_i32_450 v481
  v482.toNat
def k0_dev58 (d0 : Dev nD) : Nat :=
  let c0_i32_462 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_455 : BitVec 32 := 27#32
  let v491 : BitVec 32 := Scalar.addi v2 c27_i32_455
  let c32_i32_456 : BitVec 32 := 32#32
  let v492 : BitVec 32 := Scalar.remsi v491 c32_i32_456
  let c1_i32_461 : BitVec 32 := 1#32
  let v493 : BitVec 32 := Scalar.muli v492 c1_i32_461
  let v494 : BitVec 32 := Scalar.addi c0_i32_462 v493
  v494.toNat
def k0_dev59 (d0 : Dev nD) : Nat :=
  let c0_i32_474 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_467 : BitVec 32 := 28#32
  let v503 : BitVec 32 := Scalar.addi v2 c28_i32_467
  let c32_i32_468 : BitVec 32 := 32#32
  let v504 : BitVec 32 := Scalar.remsi v503 c32_i32_468
  let c1_i32_473 : BitVec 32 := 1#32
  let v505 : BitVec 32 := Scalar.muli v504 c1_i32_473
  let v506 : BitVec 32 := Scalar.addi c0_i32_474 v505
  v506.toNat
def k0_dev60 (d0 : Dev nD) : Nat :=
  let c0_i32_486 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_479 : BitVec 32 := 29#32
  let v515 : BitVec 32 := Scalar.addi v2 c29_i32_479
  let c32_i32_480 : BitVec 32 := 32#32
  let v516 : BitVec 32 := Scalar.remsi v515 c32_i32_480
  let c1_i32_485 : BitVec 32 := 1#32
  let v517 : BitVec 32 := Scalar.muli v516 c1_i32_485
  let v518 : BitVec 32 := Scalar.addi c0_i32_486 v517
  v518.toNat
def k0_dev61 (d0 : Dev nD) : Nat :=
  let c0_i32_498 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_491 : BitVec 32 := 30#32
  let v527 : BitVec 32 := Scalar.addi v2 c30_i32_491
  let c32_i32_492 : BitVec 32 := 32#32
  let v528 : BitVec 32 := Scalar.remsi v527 c32_i32_492
  let c1_i32_497 : BitVec 32 := 1#32
  let v529 : BitVec 32 := Scalar.muli v528 c1_i32_497
  let v530 : BitVec 32 := Scalar.addi c0_i32_498 v529
  v530.toNat
def k0_dev62 (d0 : Dev nD) : Nat :=
  let c0_i32_510 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_503 : BitVec 32 := 31#32
  let v539 : BitVec 32 := Scalar.addi v2 c31_i32_503
  let c32_i32_504 : BitVec 32 := 32#32
  let v540 : BitVec 32 := Scalar.remsi v539 c32_i32_504
  let c1_i32_509 : BitVec 32 := 1#32
  let v541 : BitVec 32 := Scalar.muli v540 c1_i32_509
  let v542 : BitVec 32 := Scalar.addi c0_i32_510 v541
  v542.toNat
abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== DistinctIdeal.lean ====
abbrev S256x32768 : Shape := ⟨2, ![256, 32768]⟩
abbrev S_ : Shape := ⟨0, ![]⟩
abbrev S256x1 : Shape := ⟨2, ![256, 1]⟩
abbrev S256x32767 : Shape := ⟨2, ![256, 32767]⟩
abbrev S256x8 : Shape := ⟨2, ![256, 8]⟩

abbrev nBuf : Space → Nat
  | .hbm => 18
  | .vmem => 0
  | .smem => 0
  | _ => 0

abbrev bufTy : (tb : Table) → Fin (tcTables nBuf tb) → BufTy
  | .hbm, ⟨0, _⟩ => ⟨S256x32768, .f32⟩
  | .hbm, ⟨1, _⟩ => ⟨S256x32768, .f32⟩
  | .hbm, ⟨2, _⟩ => ⟨S256x32768, .f32⟩
  | .hbm, ⟨3, _⟩ => ⟨S256x32768, .f32⟩
  | .hbm, ⟨4, _⟩ => ⟨S_, .i1⟩
  | .hbm, ⟨5, _⟩ => ⟨S256x1, .i1⟩
  | .hbm, ⟨6, _⟩ => ⟨S256x32767, .f32⟩
  | .hbm, ⟨7, _⟩ => ⟨S256x32767, .f32⟩
  | .hbm, ⟨8, _⟩ => ⟨S256x32767, .i1⟩
  | .hbm, ⟨9, _⟩ => ⟨S256x32768, .i1⟩
  | .hbm, ⟨10, _⟩ => ⟨S_, .f32⟩
  | .hbm, ⟨11, _⟩ => ⟨S_, .f32⟩
  | .hbm, ⟨12, _⟩ => ⟨S256x32768, .f32⟩
  | .hbm, ⟨13, _⟩ => ⟨S256x32768, .f32⟩
  | .hbm, ⟨14, _⟩ => ⟨S256x32768, .f32⟩
  | .hbm, ⟨15, _⟩ => ⟨S256x32768, .f32⟩
  | .hbm, ⟨16, _⟩ => ⟨S256x32768, .f32⟩
  | .hbm, ⟨17, _⟩ => ⟨S256x8, .f32⟩
  | _, _ => ⟨S256x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_c : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_call1_v0 : Ref sig .tc := ⟨.hbm, 11, rfl⟩
abbrev main_call1_v1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== ReferenceIdeal.lean ====
abbrev S256x32768 : Shape := ⟨2, ![256, 32768]⟩
abbrev S256x8 : Shape := ⟨2, ![256, 8]⟩
abbrev S_ : Shape := ⟨0, ![]⟩
abbrev S256x8x1 : Shape := ⟨3, ![256, 8, 1]⟩
abbrev S1 : Shape := ⟨1, ![1]⟩
abbrev S1x1x1 : Shape := ⟨3, ![1, 1, 1]⟩

abbrev nBuf : Space → Nat
  | .hbm => 28
  | .vmem => 0
  | .smem => 0
  | _ => 0

abbrev bufTy : (tb : Table) → Fin (tcTables nBuf tb) → BufTy
  | .hbm, ⟨0, _⟩ => ⟨S256x32768, .f32⟩
  | .hbm, ⟨1, _⟩ => ⟨S256x32768, .f32⟩
  | .hbm, ⟨2, _⟩ => ⟨S256x32768, .i32⟩
  | .hbm, ⟨3, _⟩ => ⟨S256x32768, .f32⟩
  | .hbm, ⟨4, _⟩ => ⟨S256x32768, .i32⟩
  | .hbm, ⟨5, _⟩ => ⟨S256x8, .i32⟩
  | .hbm, ⟨6, _⟩ => ⟨S_, .i32⟩
  | .hbm, ⟨7, _⟩ => ⟨S256x8, .i32⟩
  | .hbm, ⟨8, _⟩ => ⟨S256x8, .i1⟩
  | .hbm, ⟨9, _⟩ => ⟨S_, .i32⟩
  | .hbm, ⟨10, _⟩ => ⟨S256x8, .i32⟩
  | .hbm, ⟨11, _⟩ => ⟨S256x8, .i32⟩
  | .hbm, ⟨12, _⟩ => ⟨S256x8, .i32⟩
  | .hbm, ⟨13, _⟩ => ⟨S256x8x1, .i32⟩
  | .hbm, ⟨14, _⟩ => ⟨S1, .i32⟩
  | .hbm, ⟨15, _⟩ => ⟨S_, .i32⟩
  | .hbm, ⟨16, _⟩ => ⟨S256x8x1, .i32⟩
  | .hbm, ⟨17, _⟩ => ⟨S256x8x1, .i1⟩
  | .hbm, ⟨18, _⟩ => ⟨S1x1x1, .i32⟩
  | .hbm, ⟨19, _⟩ => ⟨S256x8x1, .i32⟩
  | .hbm, ⟨20, _⟩ => ⟨S256x8x1, .i1⟩
  | .hbm, ⟨21, _⟩ => ⟨S256x8x1, .i1⟩
  | .hbm, ⟨22, _⟩ => ⟨S_, .i1⟩
  | .hbm, ⟨23, _⟩ => ⟨S256x8, .i1⟩
  | .hbm, ⟨24, _⟩ => ⟨S256x8, .f32⟩
  | .hbm, ⟨25, _⟩ => ⟨S_, .f32⟩
  | .hbm, ⟨26, _⟩ => ⟨S256x8, .f32⟩
  | .hbm, ⟨27, _⟩ => ⟨S256x8, .f32⟩
  | _, _ => ⟨S256x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_call0_v0 : Ref sig .tc := ⟨.hbm, 2, rfl⟩
abbrev main_call0_v1_0 : Ref sig .tc := ⟨.hbm, 3, rfl⟩
abbrev main_v1 : Ref sig .tc := ⟨.hbm, 4, rfl⟩
abbrev main_v2 : Ref sig .tc := ⟨.hbm, 5, rfl⟩
abbrev main_call1_c : Ref sig .tc := ⟨.hbm, 6, rfl⟩
abbrev main_call1_v0 : Ref sig .tc := ⟨.hbm, 7, rfl⟩
abbrev main_call1_v1 : Ref sig .tc := ⟨.hbm, 8, rfl⟩
abbrev main_call1_c_0 : Ref sig .tc := ⟨.hbm, 9, rfl⟩
abbrev main_call1_v2 : Ref sig .tc := ⟨.hbm, 10, rfl⟩
abbrev main_call1_v3 : Ref sig .tc := ⟨.hbm, 11, rfl⟩
abbrev main_call1_v4 : Ref sig .tc := ⟨.hbm, 12, rfl⟩
abbrev main_call1_v5 : Ref sig .tc := ⟨.hbm, 13, rfl⟩
abbrev main_call1_c_1 : Ref sig .tc := ⟨.hbm, 14, rfl⟩
abbrev main_call1_c_2 : Ref sig .tc := ⟨.hbm, 15, rfl⟩
abbrev main_call1_v6 : Ref sig .tc := ⟨.hbm, 16, rfl⟩
abbrev main_call1_v7 : Ref sig .tc := ⟨.hbm, 17, rfl⟩
abbrev main_call1_v8 : Ref sig .tc := ⟨.hbm, 18, rfl⟩
abbrev main_call1_v9 : Ref sig .tc := ⟨.hbm, 19, rfl⟩
abbrev main_call1_v10 : Ref sig .tc := ⟨.hbm, 20, rfl⟩
abbrev main_call1_v11 : Ref sig .tc := ⟨.hbm, 21, rfl⟩
abbrev main_call1_c_3 : Ref sig .tc := ⟨.hbm, 22, rfl⟩
abbrev main_call1_v12 : Ref sig .tc := ⟨.hbm, 23, rfl⟩
abbrev main_call1_v13 : Ref sig .tc := ⟨.hbm, 24, rfl⟩
abbrev main_call1_cst : Ref sig .tc := ⟨.hbm, 25, rfl⟩
abbrev main_call1_v14 : Ref sig .tc := ⟨.hbm, 26, rfl⟩
abbrev main_v3 : Ref sig .tc := ⟨.hbm, 27, rfl⟩

abbrev nD : Nat := 1
abbrev τ : Topo := Topo.v7x

variable {F : FTy → Type} [FloatOps F]
-- ==== Proof.Loops.lean ====
/-
The kernel's body in four loops: it signals the barrier semaphore of every other device, finds the eight greatest
different values of each row of its own block, stores them in slot 0 of its landing buffer, waits for the other
devices' signals, sends slot 0 to every other device, waits for what they send and for its own transfers to have
left, and reduces the thirty-two slots. Here the printed text is shown to be that program.
-/
module

public import proofs.«01_k».proof.Proof.Gen.KernelIdeal
public import proofs.«01_k».proof.Proof.Gen.KernelIdeal.Skeleton
public import proofs.«01_k».proof.Proof.Gen.KernelIdeal.Launch

@[expose] public section

noncomputable section

namespace Cert.Exchange

open Cert.KernelIdeal Cert.KernelIdeal.Gen
open Idealize.ShloMosaic Idealize.ShloMosaic.TcCoe
open Idealize.SL Idealize.SL.Sem

variable {F : FTy → Type} [FloatOps F]

/-- The offsets at which the other devices stand: 1 to 31. -/
def offs : List (Fin 32) := [1, 2, 3, 4, 5, 6, 7, 8, 9, 10, 11, 12, 13, 14, 15, 16, 17, 18, 19, 20, 21, 22, 23, 24, 25, 26, 27, 28, 29, 30, 31]

/-- They are all but 0; -/
theorem mem_offs (d : Fin 32) : Iff (d ∈ offs) (d ≠ 0) := by revert d; decide
/-- none comes twice. -/
theorem offs_nodup : offs.Nodup := by decide

/-- The device `d` places after `c`, counted around the mesh. -/
def nbr (c : Dev nD) (d : Fin 32) : Dev nD := (show Fin 32 from c) + d
/-- The device `d` places before `c`. -/
def prv (c : Dev nD) (d : Fin 32) : Dev nD := (show Fin 32 from c) - d

/-- The one undoes the other; -/
theorem prv_nbr (c : Dev nD) (d : Fin 32) : prv (nbr c d) d = c := by revert c d; decide +kernel
/-- both ways. -/
theorem nbr_prv (c : Dev nD) (d : Fin 32) : nbr (prv c d) d = c := by revert c d; decide +kernel

/-- The devices the body signals, in program order, as the program computes them; -/
def sigDevs (c : Dev nD) : List (Dev nD) := [⟨k0_dev1 c, k0_dev1_lt c⟩, ⟨k0_dev2 c, k0_dev2_lt c⟩, ⟨k0_dev3 c, k0_dev3_lt c⟩, ⟨k0_dev4 c, k0_dev4_lt c⟩, ⟨k0_dev5 c, k0_dev5_lt c⟩, ⟨k0_dev6 c, k0_dev6_lt c⟩, ⟨k0_dev7 c, k0_dev7_lt c⟩, ⟨k0_dev8 c, k0_dev8_lt c⟩, ⟨k0_dev9 c, k0_dev9_lt c⟩, ⟨k0_dev10 c, k0_dev10_lt c⟩, ⟨k0_dev11 c, k0_dev11_lt c⟩, ⟨k0_dev12 c, k0_dev12_lt c⟩, ⟨k0_dev13 c, k0_dev13_lt c⟩, ⟨k0_dev14 c, k0_dev14_lt c⟩, ⟨k0_dev15 c, k0_dev15_lt c⟩, ⟨k0_dev16 c, k0_dev16_lt c⟩, ⟨k0_dev17 c, k0_dev17_lt c⟩, ⟨k0_dev18 c, k0_dev18_lt c⟩, ⟨k0_dev19 c, k0_dev19_lt c⟩, ⟨k0_dev20 c, k0_dev20_lt c⟩, ⟨k0_dev21 c, k0_dev21_lt c⟩, ⟨k0_dev22 c, k0_dev22_lt c⟩, ⟨k0_dev23 c, k0_dev23_lt c⟩, ⟨k0_dev24 c, k0_dev24_lt c⟩, ⟨k0_dev25 c, k0_dev25_lt c⟩, ⟨k0_dev26 c, k0_dev26_lt c⟩, ⟨k0_dev27 c, k0_dev27_lt c⟩, ⟨k0_dev28 c, k0_dev28_lt c⟩, ⟨k0_dev29 c, k0_dev29_lt c⟩, ⟨k0_dev30 c, k0_dev30_lt c⟩, ⟨k0_dev31 c, k0_dev31_lt c⟩]
/-- the devices it sends to. -/
def sendDevs (c : Dev nD) : List (Dev nD) := [⟨k0_dev32 c, k0_dev32_lt c⟩, ⟨k0_dev33 c, k0_dev33_lt c⟩, ⟨k0_dev34 c, k0_dev34_lt c⟩, ⟨k0_dev35 c, k0_dev35_lt c⟩, ⟨k0_dev36 c, k0_dev36_lt c⟩, ⟨k0_dev37 c, k0_dev37_lt c⟩, ⟨k0_dev38 c, k0_dev38_lt c⟩, ⟨k0_dev39 c, k0_dev39_lt c⟩, ⟨k0_dev40 c, k0_dev40_lt c⟩, ⟨k0_dev41 c, k0_dev41_lt c⟩, ⟨k0_dev42 c, k0_dev42_lt c⟩, ⟨k0_dev43 c, k0_dev43_lt c⟩, ⟨k0_dev44 c, k0_dev44_lt c⟩, ⟨k0_dev45 c, k0_dev45_lt c⟩, ⟨k0_dev46 c, k0_dev46_lt c⟩, ⟨k0_dev47 c, k0_dev47_lt c⟩, ⟨k0_dev48 c, k0_dev48_lt c⟩, ⟨k0_dev49 c, k0_dev49_lt c⟩, ⟨k0_dev50 c, k0_dev50_lt c⟩, ⟨k0_dev51 c, k0_dev51_lt c⟩, ⟨k0_dev52 c, k0_dev52_lt c⟩, ⟨k0_dev53 c, k0_dev53_lt c⟩, ⟨k0_dev54 c, k0_dev54_lt c⟩, ⟨k0_dev55 c, k0_dev55_lt c⟩, ⟨k0_dev56 c, k0_dev56_lt c⟩, ⟨k0_dev57 c, k0_dev57_lt c⟩, ⟨k0_dev58 c, k0_dev58_lt c⟩, ⟨k0_dev59 c, k0_dev59_lt c⟩, ⟨k0_dev60 c, k0_dev60_lt c⟩, ⟨k0_dev61 c, k0_dev61_lt c⟩, ⟨k0_dev62 c, k0_dev62_lt c⟩]

/-- The devices signalled are those at the offsets 1 to 31; -/
theorem sigDevs_eq (c : Dev nD) : sigDevs c = offs.map (nbr c) := by revert c; decide +kernel
/-- so are those sent to, each into the slot of its offset. -/
theorem sendDevs_eq (c : Dev nD) : (sendDevs c).zip offs = offs.map fun d => (nbr c d, d) := by revert c; decide +kernel

/-- The block, the result and the landing buffer, as the body names them. -/
abbrev xM : Memref sig .tc .vmem S256x1024 .f32 := Memref.whole cc0_stg0_0
abbrev oM : Memref sig .tc .vmem S256x8 .f32 := Memref.whole cc0_stg1_0
abbrev gM : Memref sig .tc .vmem S32x8x256 .f32 := Memref.whole cc0_scratch0

/-- A slot lies in the landing buffer; -/
theorem slot_inb (d : Fin 32) : ∀ a, (![d.val, 0, 0] : Fin 3 → ℕ) a + S1x8x256.size a ≤ S32x8x256.size a := by
  intro a; have := d.isLt; fin_cases a <;> simp <;> omega
/-- a transfer's semaphore in its array. -/
theorem sem_inb (d : Fin 32) : ∀ a, (![d.val] : Fin 1 → ℕ) a + S1.size a ≤ S32.size a := by
  intro a; have := d.isLt; fin_cases a; simp; omega

/-- Slot `d` of the landing buffer's rectangle; -/
abbrev slotR (d : Fin 32) : Rect S32x8x256 := Rect.unit (s := S32x8x256) ![d.val, 0, 0] S1x8x256.size (slot_inb d)
/-- slot `d` as the transfers name it. -/
abbrev slotM (d : Fin 32) : Memref sig .tc .vmem S8x256 .f32 := (gM.slice (slotR d) (fun _ => rfl)).squeeze S8x256 squeezes_S1x8x256_S8x256

/-- The barrier semaphore, and the two arrays of transfer semaphores. -/
abbrev barS : Sem sig := (SemArray.scalar (sig.barrier 0 rfl) : Sems sig S_).sem
abbrev sendS (d : Fin 32) : DmaSem sig := ((cc0_scratch1.slice (Rect.unit (s := S32) ![d.val] S1.size (sem_inb d))).squeeze S_ squeezes_S1_S_).sem
abbrev recvS (d : Fin 32) : DmaSem sig := ((cc0_scratch2.slice (Rect.unit (s := S32) ![d.val] S1.size (sem_inb d))).squeeze S_ squeezes_S1_S_).sem

/-- A program of the body. -/
abbrev Pr (F : FTy → Type) [FloatOps F] : Type 1 := Prog (TpuEff nD τ sig (Elt F) Λ₀ .tc) PUnit

/-- One signal to each device of the list. -/
def signals : List (Dev nD) → Pr F → Pr F
  | [], k => k
  | n :: l, k => .op (.semSignal (n, .tc) barS ((1 : ℕ) : ℤ)) fun _ => signals l k

/-- Slot 0 sent to each device of the list, into the slot named with it. -/
def sends : List (Dev nD × Fin 32) → Pr F → Pr F
  | [], k => k
  | (n, d) :: l, k => .op (.enqueueDma (slotM 0) (.remote (Dev.tc n) (slotM d) (.dma (sendS d))) (.dma (recvS d))
      ((View.wordExact_bits rfl).reshape _ _) ((View.wordExact_bits rfl).reshape _ _) ⟨⟨rfl, Or.inl rfl⟩, trivial⟩) fun _ => sends l k

/-- The wait for each slot of the list to be filled. -/
def waitsRecv : List (Fin 32) → Pr F → Pr F
  | [], k => k
  | d :: l, k => .op (.waitDma2 (recvS d) (slotM 0) (slotM d) ((View.wordExact_bits rfl).reshape _ _) ((View.wordExact_bits rfl).reshape _ _)) fun _ => waitsRecv l k

/-- The wait for each transfer of the list to have left. -/
def waitsSend : List (Fin 32) → Pr F → Pr F
  | [], k => k
  | d :: l, k => .op (.waitDma2 (sendS d) (slotM d) (slotM 0) ((View.wordExact_bits rfl).reshape _ _) ((View.wordExact_bits rfl).reshape _ _)) fun _ => waitsSend l k

/-- The eight greatest different values of each row of a device's block, as the body stores them: one value a row
    of the slot, the block's rows along the slot's columns. -/
def top8 (x : Vec F S256x1024 .f32) : FVec F S1x8x256 .f32 :=
  k0_pay14 (k0_pay3 x) (k0_pay5 x) (k0_pay7 x) (k0_pay9 x) (k0_pay10 x) (k0_pay11 x) (k0_pay12 x) (k0_pay13 (F := F))

/-- What the body stores as its result, from the thirty-two slots. -/
def merge8 (g : Vec F S32x8x256 .f32) : FVec F S256x8 .f32 :=
  let v998 := k0_pay19 g
  let v1002 := k0_pay21 g
  let v1003 := k0_pay22 (F := F)
  k0_pay1 (k0_pay16 g) (k0_pay18 g) (k0_pay20 g) (k0_pay24 v998 v1002 v1003) (k0_pay26 v998 v1002 v1003) (k0_pay27 v998 v1002 v1003) (k0_pay28 v998 v1002 v1003) (k0_pay29 v998 v1002 v1003)

/-- The whole block, the whole result and the whole landing buffer, as the body's loads and store name them. -/
abbrev rX : Rect S256x1024 := Rect.unit (s := S256x1024) ![0, 0] S256x1024.size inb_S256x1024_S256x1024_0_0
abbrev rO : Rect S256x8 := Rect.unit (s := S256x8) ![0, 0] S256x8.size inb_S256x8_S256x8_0_0
abbrev rG : Rect S32x8x256 := Rect.unit (s := S32x8x256) ![0, 0, 0] S32x8x256.size inb_S32x8x256_S32x8x256_0_0_0

/-- The body once all has landed: read the slots, store the result. -/
def finish : Pr F :=
  .op (.load gM rG.toLoadRect (View.loadsAt_vmem h_S32x8x256)) fun g =>
  .op (.load oM rO.toLoadRect (View.loadsAt_vmem h_S256x8)) fun _ =>
  .op (.store oM rO (merge8 g) Finset.univ (View.stores_vmem_bits_univ h_S256x8 rfl) (.inl rfl)) fun _ => .ret ⟨⟩

/-- The body as a program of loops, on device `c`. -/
def looped (c : Dev nD) : Pr F :=
  signals (sigDevs c) <|
  .op (.load xM rX.toLoadRect (View.loadsAt_vmem h_S256x1024)) fun x =>
  .op (.load gM (slotR 0).toLoadRect (View.loadsAt_vmem h_S1x8x256)) fun _ =>
  .op (.store gM (slotR 0) (top8 x) Finset.univ (View.stores_vmem_bits_univ h_S1x8x256 rfl) (.inl rfl)) fun _ =>
  .op (.semWait barS ((31 : ℕ) : ℤ)) fun _ =>
  sends ((sendDevs c).zip offs) <| waitsRecv offs <| waitsSend offs finish

set_option maxRecDepth 65536 in
/-- The printed body is that program, run on the device it asks for. -/
theorem body_eq : cc0_body (F := F) xM (Memref.isWhole_whole _) oM (Memref.isWhole_whole _) gM (Memref.isWhole_whole _) cc0_scratch1 cc0_scratch2
    = .op .deviceId fun c => looped c := rfl

end Cert.Exchange

end
-- ==== Proof.Slots.lean ====
/-
The landing buffer of a device, slot by slot. Slot `d` receives what the device `d` places before sends; slot 0
holds the device's own eight values a row. One contents function describes the whole buffer once all has landed,
and a transfer writes exactly that function's part on the slot it fills.
-/
module

public import proofs.«01_k».proof.Proof.Loops
public import Idealize.ShloMosaic.Lib.Pipeline.Launch
public import Idealize.ShloMosaic.Lib.Pipeline.Kit
public import Idealize.ShloMosaic.Lib.ShareLeaves
public import Idealize.ShloMosaic.Lib.ValueIdx
public import Idealize.ShloMosaic.Lib.Tactic

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

/-! ## The resource algebra: the staging library's copy, and the exchange's with duties named by offsets -/

/-- The exchange's ghost state, with duties named by offsets; -/
abbrev UB : Type := URounds (GSem nD τ sig) (Fin 32)
/-- the staging library's beside it. -/
abbrev UU : Type := UR sig nD τ × UB

local notation "𝕄" => MT nD τ sig Unit (Elt F) ℕ UU ℕ

/-- Each is a part of the whole. -/
abbrev EP : Emb (UR sig nD τ) (MT nD τ sig Unit (Elt F) ℕ UU ℕ) := embL
abbrev ER : Emb UB (MT nD τ sig Unit (Elt F) ℕ UU ℕ) := embR

/-- The contents of a device's landing buffer. -/
abbrev Slots (F : FTy → Type) (c : Dev nD) : Type := Buf (Elt F) ((c : Thread nD τ).loc cc0_scratch0)

/-! ## The slots -/

/-- The elements of slot `d`. -/
def slotSet (d : Fin 32) : Finset S32x8x256.Idx := (slotR d).set

/-- An element is in the slot that its first coordinate names; -/
theorem mem_slotSet (d : Fin 32) (i : S32x8x256.Idx) : Iff (i ∈ slotSet d) ((i 0).val = d.val) := by
  unfold slotSet
  rw [Rect.mem_set_unit]
  constructor
  · intro h
    have := h 0
    simp at this
    omega
  · intro h a
    have h1 := (i 1).isLt
    have h2 := (i 2).isLt
    fin_cases a
    · simp; omega
    · simpa using h1
    · simpa using h2

/-- these are the elements that the transfers' view of the slot reaches; -/
theorem slot_view_set (d : Fin 32) : (slotM d).view.set = slotSet d := by
  unfold slotSet
  exact (View.set_reshape _ _).trans (View.set_slice_whole _ _)

/-- different slots have none in common; -/
theorem slots_disjoint (d e : Fin 32) (h : d ≠ e) : Disjoint (slotSet d) (slotSet e) :=
  Finset.disjoint_left.mpr fun i h1 h2 => h (Fin.ext (((mem_slotSet d i).mp h1).symm.trans ((mem_slotSet e i).mp h2)))

/-- and the slots are the whole buffer. -/
theorem slots_cover : (Finset.univ : Finset (Fin 32)).biUnion slotSet = Finset.univ :=
  Finset.eq_univ_iff_forall.mpr fun i => Finset.mem_biUnion.mpr ⟨i 0, Finset.mem_univ _, (mem_slotSet _ i).mpr rfl⟩

/-! ## What the buffer holds once all has landed -/

/-- The landing buffer of device `c` when slot `d` holds what `t` gives for the device `d` places before. -/
def gathered (t : Dev nD → Vec F S1x8x256 .f32) (c : Dev nD) : Slots F c :=
  fun i : S32x8x256.Idx => t (prv c (i 0)) (ix3 (0 : Fin 1) (i 1) (i 2))

/-- No places before is the device itself; -/
theorem prv_zero (c : Dev nD) : prv c 0 = c := by revert c; decide +kernel
/-- so is no places after. -/
theorem nbr_zero (c : Dev nD) : nbr c 0 = c := by revert c; decide +kernel

omit [FloatOps F] in
/-- On slot `d` the buffer holds what the device `d` places before gives. -/
theorem gathered_slot (t : Dev nD → Vec F S1x8x256 .f32) (c : Dev nD) (d : Fin 32) (y : S1x8x256.Idx) :
    gathered t c ((slotR d).emb y) = t (prv c d) y := by
  unfold gathered
  have h0 : (slotR d).emb y 0 = d := Fin.ext (by
    have := (y 0).isLt
    show d.val + 1 * (y 0).val = d.val
    simp at this; omega)
  have hy : (ix3 (0 : Fin 1) ((slotR d).emb y 1) ((slotR d).emb y 2) : S1x8x256.Idx) = y := by
    funext a
    refine Fin.ext ?_
    have := (y 0).isLt
    fin_cases a
    · simp at this; show (0 : ℕ) = (y 0).val; omega
    · show 0 + 1 * (y 1).val = (y 1).val; omega
    · show 0 + 1 * (y 2).val = (y 2).val; omega
  rw [show prv c ((slotR d).emb y 0) = prv c d from congrArg _ h0]
  exact congrArg _ hy

omit [FloatOps F] in
/-- A transfer of device `c`'s slot 0 into slot `d` of the device `d` places after leaves there what that device's
    buffer is to hold. -/
theorem landed_slot (t : Dev nD → Vec F S1x8x256 .f32) (c : Dev nD) (d : Fin 32) (fd : Slots F (nbr c d)) (i : S32x8x256.Idx) (hi : i ∈ slotSet d) :
    (slotM d).view.write (Elt F) fd ((slotM 0).view.read (Elt F) (gathered t c)) Finset.univ i = gathered t (nbr c d) i := by
  rw [← slot_view_set] at hi
  obtain ⟨x, -, rfl⟩ := Finset.mem_map.mp hi
  rw [View.write_emb_of_mem _ _ (Finset.mem_univ x)]
  show gathered t c ((slotR 0).emb (Shape.reshapeEquiv _ x)) = gathered t (nbr c d) ((slotR d).emb (Shape.reshapeEquiv _ x))
  rw [gathered_slot, gathered_slot, prv_nbr, prv_zero]

omit [FloatOps F] in
/-- The device's own store leaves in slot 0 what its buffer is to hold there. -/
theorem stored_slot (t : Dev nD → Vec F S1x8x256 .f32) (c : Dev nD) (f : Slots F c) (i : S32x8x256.Idx) (hi : i ∈ slotSet 0) :
    (gM.access (slotR 0)).write (Elt F) f (t c) Finset.univ i = gathered t c i := by
  have hs : (gM.access (slotR 0)).set = slotSet 0 := View.set_slice_whole _ _
  rw [← hs] at hi
  obtain ⟨y, -, rfl⟩ := Finset.mem_map.mp hi
  rw [View.write_emb_of_mem _ _ (Finset.mem_univ y)]
  refine ((gathered_slot t c 0 y).trans ?_).symm
  rw [prv_zero]; rfl

/-! ## Holding a slot -/

/-- Device `c` holds slot `d` of its landing buffer at contents `f`. -/
def slotPts (c : Dev nD) (d : Fin 32) (f : Slots F c) : sProp 𝕄 := (slotM d).view.loc (c : Thread nD τ) ↦[(slotM d).view.set]{fullShare} f
/-- A thirty-second part of the right to slot 0, one for each transfer. -/
def srcPts (c : Dev nD) (d : Fin 32) (f : Slots F c) : sProp 𝕄 := (slotM 0).view.loc (c : Thread nD τ) ↦[(slotM 0).view.set]{ShareLeaves.leaf 5 fullShare d} f

omit [FloatOps F] in
/-- A slot held can be kept in an invariant; -/
instance slotPts_storable (c : Dev nD) (d : Fin 32) (f) : BI.Storable (upEmb : UEmb _ 𝕄) (slotPts (F := F) c d f) := by unfold slotPts; infer_instance
omit [FloatOps F] in
/-- so can a part of slot 0. -/
instance srcPts_storable (c : Dev nD) (d : Fin 32) (f) : BI.Storable (upEmb : UEmb _ 𝕄) (srcPts (F := F) c d f) := by unfold srcPts; infer_instance

omit [FloatOps F] in
/-- Holding a slot is holding its elements. -/
theorem slotPts_eq (c : Dev nD) (d : Fin 32) (f : Slots F c) :
    slotPts c d f = (((c : Thread nD τ).loc cc0_scratch0) ↦[slotSet d]{fullShare} f : sProp 𝕄) := by unfold slotPts; rw [slot_view_set]

/-- Device `c` holds its whole landing buffer. -/
abbrev bufPts (c : Dev nD) (f : Slots F c) : sProp 𝕄 := ((c : Thread nD τ).loc cc0_scratch0) ↦{fullShare} f

omit [FloatOps F] in
/-- The whole buffer is its thirty-two slots. -/
theorem slots_split (c : Dev nD) (f : Slots F c) :
    bufPts c f = bigSep Finset.univ fun d : Fin 32 => slotPts c d f := by
  rw [bigSep_congr fun d _ => slotPts_eq c d f]
  exact (congrArg (fun S => (((c : Thread nD τ).loc cc0_scratch0) ↦[S]{fullShare} f : sProp 𝕄)) slots_cover.symm).trans
    (pointsTo_biUnion (ℓ := (c : Thread nD τ).loc cc0_scratch0) Finset.univ slotSet (fun d _ e _ h => slots_disjoint d e h))

omit [FloatOps F] in
/-- Slot 0 is its thirty-two parts. -/
theorem src_split (c : Dev nD) (f : Slots F c) : slotPts c 0 f = bigSep Finset.univ fun d : Fin 32 => (srcPts c d f : sProp 𝕄) :=
  ShareLeaves.pointsTo_leaves _ f 5 fullShare

omit [FloatOps F] in
/-- It depends on the contents at these elements alone. -/
theorem slotPts_congr (c : Dev nD) (d : Fin 32) (f g : Slots F c) (h : ∀ i ∈ slotSet d, f i = g i) : slotPts c d f = (slotPts c d g : sProp 𝕄) := by
  rw [slotPts_eq, slotPts_eq, pointsTo_congr h]

end Cert.Exchange

end
-- ==== Proof.Duties.lean ====
/-
Who pays what to which semaphore. Every device has one barrier cell, thirty-two cells for transfers leaving it and
thirty-two for transfers reaching it. The barrier cell of `c` receives one unit from the device `e` places after, for
each `e` from 1 to 31, and with it slot `e` of that device's landing buffer, where `c`'s transfer to it goes. A
transfer's two cells receive the slot's credit: at the sender its part of slot 0 comes back, at the receiver the slot
filled.
-/
module

public import proofs.«01_k».proof.Proof.Slots

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The cells -/

/-- A device's cells: the barrier's, and for each offset a leaving transfer's (`false`) and an arriving one's (`true`). -/
abbrev Kind : Type := Option (Bool × Fin 32)

/-- The transfer semaphores, the kernel's own; -/
def osem : Bool × Fin 32 → SemLoc sig
  | (true, d) => .dma (recvS d)
  | (false, d) => .dma (sendS d)
/-- all the semaphores of the exchange. -/
def csem : Kind → SemLoc sig
  | none => .reg barS
  | some k => osem k

/-- Different transfers have different semaphores; -/
theorem osem_injective : Function.Injective osem := by
  have h : ∀ k k' : Bool × Fin 32, osem k = osem k' → k = k' := by decide +kernel
  exact fun k k' => h k k'

/-- none is the barrier's; -/
theorem osem_ne_bar (k : Bool × Fin 32) : osem k ≠ .reg barS := fun h => by rcases k with ⟨_ | _, d⟩ <;> cases h

/-- so different cells of a device are different semaphores. -/
theorem csem_injective : Function.Injective csem := by
  rintro (_ | k) (_ | k') h
  · rfl
  · exact absurd h.symm (osem_ne_bar k')
  · exact absurd h (osem_ne_bar k)
  · exact congrArg some (osem_injective h)

/-- Which cell a semaphore is, if it is one of the exchange's. -/
def kindOf (s : SemLoc sig) : Option Kind := Function.partialInv csem s
/-- A cell's semaphore is known again as that cell's; -/
theorem kindOf_csem (k : Kind) : kindOf (csem k) = some k := Function.partialInv_left csem_injective k
/-- and what is known as a cell's is its semaphore. -/
theorem kindOf_some {s : SemLoc sig} {k : Kind} (h : kindOf s = some k) : s = csem k := ((Function.partialInv_of_injective csem_injective k s).mp h).symm

/-- A cell on device `c`: any kind; the same of a pair; the barrier's; a leaving transfer's; an arriving one's. -/
abbrev cell (c : Dev nD) (k : Kind) : GSem nD τ sig := ((c : Thread nD τ), csem k)
abbrev kcell (ck : Dev nD × Kind) : GSem nD τ sig := cell ck.1 ck.2
abbrev barCell (c : Dev nD) : GSem nD τ sig := cell c none
abbrev sendCell (c : Dev nD) (d : Fin 32) : GSem nD τ sig := cell c (some (false, d))
abbrev recvCell (c : Dev nD) (d : Fin 32) : GSem nD τ sig := cell c (some (true, d))

/-- A cell determines its device and its kind; -/
theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]

/-- so two cells are one only where both agree. -/
theorem cell_eq_iff {c c' : Dev nD} {k k' : Kind} : Iff (cell c k = cell c' k') (c = c' ∧ k = k') :=
  ⟨fun h => by have := kcell_injective (a₁ := (c, k)) (a₂ := (c', k')) h; exact ⟨congrArg Prod.fst this, congrArg Prod.snd this⟩, fun h => by rw [h.1, h.2]⟩

/-- The credit of one slot's transfer. -/
abbrev N : ℕ := (slotM 0).view.dmaCredit
/-- A transfer pays something. -/
theorem N_pos : 0 < N := View.dmaCredit_pos _ (by decide)

/-! ## Offsets -/

/-- The offset back. -/
def back (d : Fin 32) : Fin 32 := -d
/-- From the device `d` places after, the offset back leads home; -/
theorem nbr_back (c : Dev nD) (d : Fin 32) : nbr (nbr c d) (back d) = c := by revert c d; decide +kernel
/-- the offset back of the offset back is the offset; -/
theorem back_back (d : Fin 32) : back (back d) = d := by revert d; decide +kernel
/-- it is not 0 where the offset is not; -/
theorem back_ne (d : Fin 32) (h : d ≠ 0) : back d ≠ 0 := by revert d; decide +kernel
/-- and 0 goes back by 0. -/
theorem back_zero : back 0 = 0 := by decide +kernel
/-- Going back as a rearrangement of the offsets. -/
def backEquiv : Fin 32 ≃ Fin 32 := ⟨back, back, back_back, back_back⟩
/-- Going `d` places on, all around. -/
def nbrEquiv (d : Fin 32) : Dev nD ≃ Dev nD := ⟨fun c => nbr c d, fun c => prv c d, fun c => prv_nbr c d, fun c => nbr_prv c d⟩

/-! ## The schedule -/

variable (t : Dev nD → Vec F S1x8x256 .f32)

/-- What a cell's duty hands over: the barrier's duty `e` slot `e` of the device `e` places after; a leaving transfer's
    its part of slot 0; an arriving one's the slot it filled. -/
def pay (c : Dev nD) : Kind → Fin 32 → sProp 𝕄
  | none, e => iprop(∃ f, slotPts (nbr c e) e f)
  | some (false, d), _ => srcPts c d (gathered t c)
  | some (true, d), _ => slotPts c d (gathered t c)

omit [FloatOps F] in
/-- What is handed over can be kept in an invariant; -/
instance pay_storable (c : Dev nD) (k : Kind) (e : Fin 32) : BI.Storable (upEmb : UEmb _ 𝕄) (pay (F := F) t c k e) := by
  rcases k with _ | ⟨_ | _, d⟩ <;> unfold pay <;> infer_instance

/-- The duties of each cell, -/
def dut : Kind → Finset (Fin 32)
  | none => Finset.univ.erase 0
  | some (_, d) => if d = 0 then ∅ else {0}
/-- and what one is worth. -/
def amt : Kind → ℕ
  | none => 1
  | some _ => N

/-- One round: the cells' duties, amounts and what they hand over. -/
def exRd : Rounds.Schedule (GSem nD τ sig) (Fin 32) 𝕄 where
  duties g r := if r = 0 ∧ g.1.2 = .tc then (kindOf g.2).elim ∅ dut else ∅
  unitless _ := False
  amount g _ _ := (kindOf g.2).elim 1 amt
  payload g _ e := (kindOf g.2).elim iprop(emp) fun k => pay t g.1.1 k e
  amount_pos g _ _ _ := by
    cases kindOf g.2 with
    | none => exact Nat.one_pos
    | some k => cases k with
      | none => exact Nat.one_pos
      | some k => exact N_pos

/-- so can the schedule's. -/
instance exRd_payload_storable (g : GSem nD τ sig) (r : ℕ) (e : Fin 32) : BI.Storable (upEmb : UEmb _ 𝕄) ((exRd (F := F) t).payload g r e) := by
  show BI.Storable upEmb ((kindOf g.2).elim iprop(emp) fun k => pay t g.1.1 k e)
  cases kindOf g.2 <;> dsimp only [Option.elim] <;> infer_instance

section Sched
variable (c : Dev nD) (k : Kind)

omit [FloatOps F] in
/-- A cell's duties in round 0 are those of its kind; -/
theorem duties_cell : (exRd (F := F) t).duties (cell c k) 0 = dut k := by
  dsimp only [exRd]; rw [if_pos ⟨rfl, rfl⟩, kindOf_csem]; rfl
omit [FloatOps F] in
/-- there are none in later rounds; -/
theorem duties_later (g : GSem nD τ sig) : ∀ r, 1 ≤ r → (exRd (F := F) t).duties g r = ∅ :=
  fun r hr => by dsimp only [exRd]; rw [if_neg fun h => by omega]
omit [FloatOps F] in
/-- each is worth what its kind says; -/
theorem amount_cell (e : Fin 32) : (exRd (F := F) t).amount (cell c k) 0 e = amt k := by
  dsimp only [exRd]; rw [kindOf_csem]; rfl
omit [FloatOps F] in
/-- each hands over what its kind says. -/
theorem payload_cell (e : Fin 32) : (exRd (F := F) t).payload (cell c k) 0 e = pay t c k e := by
  dsimp only [exRd]; rw [kindOf_csem]; rfl

omit [FloatOps F] in
/-- A barrier cell expects one unit from each of the 31 others; -/
theorem expect_bar : (exRd (F := F) t).expect (barCell c) 0 = 31 := by
  unfold Schedule.expect Schedule.amountOf
  rw [duties_cell, Finset.sum_congr rfl fun d _ => amount_cell t c none d, Finset.sum_const]
  decide
omit [FloatOps F] in
/-- a transfer's cell has one duty, -/
theorem dut_xfer {b : Bool} {d : Fin 32} (h : d ≠ 0) : dut (some (b, d)) = {0} := if_neg h
omit [FloatOps F] in
/-- and expects the credit of a slot; -/
theorem expect_xfer {b : Bool} {d : Fin 32} (h : d ≠ 0) : (exRd (F := F) t).expect (cell c (some (b, d))) 0 = N := by
  unfold Schedule.expect Schedule.amountOf
  rw [duties_cell, dut_xfer h, Finset.sum_singleton, amount_cell]; rfl

omit [FloatOps F] in
/-- What the whole round of a transfer's cell hands over. -/
theorem rest_xfer {b : Bool} {d : Fin 32} (h : d ≠ 0) :
    bigSep ((exRd (F := F) t).duties (cell c (some (b, d))) 0 \ ∅) (fun e => (exRd (F := F) t).payload (cell c (some (b, d))) 0 e) = pay t c (some (b, d)) 0 := by
  rw [Finset.sdiff_empty, duties_cell, dut_xfer h, bigSep_singleton, payload_cell]
omit [FloatOps F] in
/-- so for an arriving transfer, -/
theorem expect_recv {d : Fin 32} (h : d ≠ 0) : (exRd (F := F) t).expect ((c : Thread nD τ), .dma (recvS d)) 0 = N := expect_xfer t c (b := true) h
omit [FloatOps F] in
/-- and for a leaving one. -/
theorem expect_send {d : Fin 32} (h : d ≠ 0) : (exRd (F := F) t).expect ((c : Thread nD τ), .dma (sendS d)) 0 = N := expect_xfer t c (b := false) h
omit [FloatOps F] in
/-- A slot's round of arrival hands over the slot filled; -/
theorem rest_recv {d : Fin 32} (h : d ≠ 0) :
    bigSep ((exRd (F := F) t).duties ((c : Thread nD τ), .dma (recvS d)) 0 \ ∅) (fun e => (exRd (F := F) t).payload ((c : Thread nD τ), .dma (recvS d)) 0 e)
      = slotPts c d (gathered t c) := rest_xfer t c (b := true) h
omit [FloatOps F] in
/-- a transfer's round of leaving its part of slot 0. -/
theorem rest_send {d : Fin 32} (h : d ≠ 0) :
    bigSep ((exRd (F := F) t).duties ((c : Thread nD τ), .dma (sendS d)) 0 \ ∅) (fun e => (exRd (F := F) t).payload ((c : Thread nD τ), .dma (sendS d)) 0 e)
      = srcPts c d (gathered t c) := rest_xfer t c (b := false) h
omit [FloatOps F] in
/-- What the whole round of the barrier cell hands over: slot `e` of the device `e` places after, for each `e`. -/
theorem rest_bar :
    bigSep ((exRd (F := F) t).duties (barCell c) 0 \ ∅) (fun e => (exRd (F := F) t).payload (barCell c) 0 e)
      = bigSep (Finset.univ.erase 0) fun e : Fin 32 => iprop(∃ f, slotPts (nbr c e) e f) := by
  rw [Finset.sdiff_empty, duties_cell]
  exact bigSep_congr fun e _ => payload_cell t c none e

end Sched

/-! ## Lists of resources and of tallies -/

/-- The separating conjunction along a list. -/
def sepL (Φ : Fin 32 → sProp 𝕄) : List (Fin 32) → sProp 𝕄
  | [] => iprop(emp)
  | d :: l => iprop(Φ d ∗ sepL Φ l)

omit [FloatOps F] in
/-- The first of the list and the rest. -/
theorem sepL_cons (Φ : Fin 32 → sProp 𝕄) (d : Fin 32) (l : List (Fin 32)) : sepL Φ (d :: l) = iprop(Φ d ∗ sepL Φ l) := rfl

omit [FloatOps F] in
/-- Along a list without repetition: over the set of its elements. -/
theorem sepL_eq (Φ : Fin 32 → sProp 𝕄) : ∀ l : List (Fin 32), l.Nodup → sepL Φ l = bigSep l.toFinset Φ
  | [], _ => by rw [List.toFinset_nil, bigSep_empty]; rfl
  | d :: l, h => by
    rw [List.toFinset_cons, bigSep_insert (fun hd => (List.nodup_cons.mp h).1 (List.mem_toFinset.mp hd)), ← sepL_eq Φ l (List.nodup_cons.mp h).2]; rfl

/-- The offsets 1 to 31 are all but 0. -/
theorem offs_toFinset : offs.toFinset = Finset.univ.erase 0 := by decide

omit [FloatOps F] in
/-- Along the offsets 1 to 31: all but the offset 0. -/
theorem sepL_offs (Φ : Fin 32 → sProp 𝕄) : sepL Φ offs = bigSep (Finset.univ.erase 0) Φ := by rw [sepL_eq Φ offs offs_nodup, offs_toFinset]

omit [FloatOps F] in
/-- Over all offsets: offset 0 and those of the list. -/
theorem bigSep_offs (Φ : Fin 32 → sProp 𝕄) : bigSep Finset.univ Φ = iprop(Φ 0 ∗ sepL Φ offs) := by rw [sepL_offs]; exact bigSep_univ_at Φ 0

/-- The sum of tallies along a list. -/
def owedL (f : Fin 32 → CellTallies nD τ sig Unit) : List (Fin 32) → CellTallies nD τ sig Unit
  | [] => 0
  | d :: l => owedL f l + f d

/-- What is owed along a list is owed by one of its elements; -/
theorem owedL_pos (f : Fin 32 → CellTallies nD τ sig Unit) (g : GSem nD τ sig) (u : Unit) :
    ∀ l, 0 < owedL f l g u → ∃ d ∈ l, 0 < f d g u
  | [], h => absurd h (Nat.lt_irrefl 0)
  | d :: l, h => by
    have h' : 0 < owedL f l g u + f d g u := h
    rcases Nat.eq_zero_or_pos (f d g u) with h0 | h0
    · rw [h0, Nat.add_zero] at h'
      obtain ⟨e, he, hp⟩ := owedL_pos f g u l h'
      exact ⟨e, List.mem_cons_of_mem _ he, hp⟩
    · exact ⟨d, List.mem_cons_self, h0⟩

/-- and is the sum over its elements. -/
theorem owedL_apply (f : Fin 32 → CellTallies nD τ sig Unit) (g : GSem nD τ sig) (u : Unit) :
    ∀ l : List (Fin 32), l.Nodup → owedL f l g u = ∑ d ∈ l.toFinset, f d g u
  | [], _ => rfl
  | d :: l, h => by
    rw [List.toFinset_cons, Finset.sum_insert (fun hd => (List.nodup_cons.mp h).1 (List.mem_toFinset.mp hd)), ← owedL_apply f g u l (List.nodup_cons.mp h).2, Nat.add_comm]
    rfl

/-! ## What each device owes at launch; the levels -/

/-- The credit of the transfers device `c` is to send, -/
def owedRecv (c : Dev nD) (d : Fin 32) : CellTallies nD τ sig Unit := tallyAt (recvCell (nbr c d) d) () N
/-- the units of the signals it is to give. -/
def owedBar (c : Dev nD) (d : Fin 32) : CellTallies nD τ sig Unit := tallyAt (barCell (nbr c d)) () 1
/-- All that device `c` owes at launch. -/
def O₀ (c : Dev nD) : CellTallies nD τ sig Unit := owedL (owedRecv c) offs + owedL (owedBar c) offs

/-- Barrier cells stand at level 1, arriving transfers' at 2, all others at 0. -/
def lvK : Option Kind → ℕ
  | some none => 1
  | some (some (true, _)) => 2
  | _ => 0
/-- Every semaphore of a core has the one index; -/
def L (g : GSem nD τ sig) : Finset Unit := if g.1.2 = .tc then {()} else ∅
/-- its level is that of its cell. -/
def lv (g : GSem nD τ sig) (_ : Unit) : ℕ := lvK (kindOf g.2)

/-- A semaphore of no core has none; -/
theorem L_of_ne (g : GSem nD τ sig) (h : g.1.2 ≠ .tc) : L g = ∅ := if_neg h
/-- one of a core has it. -/
theorem L_tc (c : Dev nD) (sm : SemLoc sig) : L ((c : Thread nD τ), sm) = {()} := if_pos rfl
/-- The level of a cell is that of its kind. -/
theorem lv_cell (c : Dev nD) (k : Kind) : lv (cell c k) () = lvK (some k) := by unfold lv; rw [kindOf_csem]

/-- A tally is positive only at its own semaphore. -/
theorem tally_pos {g g' : GSem nD τ sig} {n : ℕ} {u : Unit} (h : 0 < (tallyAt g' () n : CellTallies nD τ sig Unit) g u) : g = g' := by
  rw [tallyAt_apply] at h
  by_contra hn
  rw [if_neg (fun h' => hn h'.1)] at h
  exact Nat.lt_irrefl 0 h

/-- What is owed of transfers is owed to arriving transfers' cells; -/
theorem owedRecv_pos {c : Dev nD} {g : GSem nD τ sig} {u : Unit} (h : 0 < owedL (owedRecv c) offs g u) : ∃ d, g = recvCell (nbr c d) d := by
  obtain ⟨d, -, hd⟩ := owedL_pos _ g u _ h
  exact ⟨d, tally_pos hd⟩

/-- all that is owed is owed to these or to barrier cells. -/
theorem O₀_pos {c : Dev nD} {g : GSem nD τ sig} {u : Unit} (h : 0 < O₀ c g u) : (∃ d, g = recvCell (nbr c d) d) ∨ ∃ d, g = barCell (nbr c d) := by
  have h' : 0 < owedL (owedRecv c) offs g u + owedL (owedBar c) offs g u := h
  rcases Nat.eq_zero_or_pos (owedL (owedBar c) offs g u) with h0 | h0
  · rw [h0, Nat.add_zero] at h'
    exact Or.inl (owedRecv_pos h')
  · obtain ⟨d, -, hd⟩ := owedL_pos _ g u _ h0
    exact Or.inr ⟨d, tally_pos hd⟩

omit [FloatOps F] in
/-- A staging wait is below everything owed. -/
theorem mayWait_stage (c : Dev nD) (s : SemLoc sig) (hs : lvK (kindOf s) = 0) (O : CellTallies nD τ sig Unit) (hO : O = O₀ c ∨ O = 0) :
    (levAts L lv : sProp 𝕄) ⊢ MayWait (c : Thread nD τ) s () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨d, rfl⟩ | ⟨d, rfl⟩ <;> exact Finset.mem_singleton_self _)
      (fun p hp => by rw [Finset.mem_singleton.mp hp]; exact hs.le)
      (fun g u hg => by
        rcases O₀_pos hg with ⟨d, rfl⟩ | ⟨d, rfl⟩
        · rw [lv_cell]; exact Nat.succ_pos _
        · rw [lv_cell]; exact Nat.succ_pos _)
  · rw [MayWait_zero]; iintro -; iempintro

omit [FloatOps F] in
/-- At its barrier wait a device owes arriving transfers' cells only, which stand above. -/
theorem mayWait_bar (c : Dev nD) : (levAts L lv : sProp 𝕄) ⊢ MayWait (c : Thread nD τ) (csem none) () (owedL (owedRecv c) offs) :=
  MayOwe.of_cut (L := L) (lev := lv) 1 (fun p hp => by rw [Finset.mem_singleton.mp hp, L_tc]; exact Finset.mem_singleton_self _)
    (fun g u hg => by obtain ⟨d, rfl⟩ := owedRecv_pos hg; exact Finset.mem_singleton_self _)
    (fun p hp => by rw [Finset.mem_singleton.mp hp]; exact (lv_cell c none).le)
    (fun g u hg => by obtain ⟨d, rfl⟩ := owedRecv_pos hg; rw [lv_cell]; exact Nat.lt_succ_self 1)

end Cert.Exchange

end
-- ==== Proof.Steps.lean ====
/-
The four loops of the body, one rule each: the signals, the transfers, and the two rows of waits. Each is proved by
going down its list, with the same step for every device.
-/
module

public import proofs.«01_k».proof.Proof.Duties

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- No loop of the body needs a measure. -/
abbrev 𝒱₀ : Variants := Variants.none

/-- That the program `p` on device `c` ends with `Q`. -/
abbrev runs (c : Dev nD) (p : Pr F) (Q : PUnit → sProp 𝕄) : sProp 𝕄 := wp frame (wpE (defs₀ (F := F)) 𝒱₀ (c : Thread nD τ) none) Set.univ p Q

variable (t : Dev nD → Vec F S1x8x256 .f32)

/-! ## What everybody knows: the cells' invariants, and that round 0 is open at each -/

/-- The invariants of all cells, and round 0 open at all; -/
def records (K : Dev nD × Kind → ℕ) : sProp 𝕄 :=
  iprop((bigSep Finset.univ fun ck : Dev nD × Kind => cellInv ER (exRd t) (K ck) (kcell ck))
    ∗ bigSep Finset.univ fun ck : Dev nD × Kind => reached ER (kcell ck) 0)

/-- these stay known; -/
instance records_persistent (K : Dev nD × Kind → ℕ) : BI.Persistent (records t K) := by unfold records; infer_instance

omit [FloatOps F] in
/-- a cell's invariant is among them, -/
theorem inv_at (K : Dev nD × Kind → ℕ) (c : Dev nD) (k : Kind) : records t K ⊢ cellInv ER (exRd t) (K (c, k)) (cell c k) := by
  have h : (bigSep Finset.univ fun ck : Dev nD × Kind => (cellInv ER (exRd t) (K ck) (kcell ck) : sProp 𝕄)) ⊢ cellInv ER (exRd t) (K (c, k)) (cell c k) :=
    bigSep_elim (Finset.mem_univ (c, k))
  unfold records
  iintro ⟨H, -⟩
  iapply h; iexact H
omit [FloatOps F] in
/-- and that its round 0 is open. -/
theorem reached_at (K : Dev nD × Kind → ℕ) (c : Dev nD) (k : Kind) : records t K ⊢ reached ER (cell c k) 0 := by
  have h : (bigSep Finset.univ fun ck : Dev nD × Kind => (reached ER (kcell ck) 0 : sProp 𝕄)) ⊢ reached ER (cell c k) 0 :=
    bigSep_elim (Finset.mem_univ (c, k))
  unfold records
  iintro ⟨-, H⟩
  iapply h; iexact H

variable (K : Dev nD × Kind → ℕ)

/-! ## The signals -/

/-- The signal to the device `d` places after pays that device's barrier duty named by the offset back, and hands over
    the slot of that offset. -/
theorem wp_signals (c : Dev nD) (T : CellTallies nD τ sig Unit) (W : Waits sig Unit) (p : Pr F) (Q : PUnit → sProp 𝕄) :
    ∀ l : List (Fin 32), (∀ d ∈ l, d ≠ 0) →
    iprop(records t K ∗ owes (c : Thread nD τ) (T + owedL (owedBar c) l) W
        ∗ sepL (fun d => dutyTok ER (barCell (nbr c d)) 0 (back d)) l ∗ sepL (fun d => iprop(∃ f, slotPts c (back d) f)) l)
      ⊢ iprop((owes (c : Thread nD τ) T W -∗ runs c p Q) -∗ runs c (signals (l.map (nbr c)) p) Q)
  | [], _ => by
    rw [show owedL (owedBar c) [] = 0 from rfl, add_zero]
    iintro ⟨-, HO, -, -⟩ Hk
    iapply Hk
    iexact HO
  | d :: l, hl => by
    have hd : d ≠ 0 := hl d List.mem_cons_self
    simp only [sepL_cons]
    iintro ⟨#HR, HO, ⟨Ht, Hts⟩, ⟨Hs, Hss⟩⟩ Hk
    iapply (Rounds.wp_signal 𝒱₀ ER (exRd t) (c : Thread nD τ) none (dst := (nbr c d : Thread nD τ)) (κ := K (nbr c d, none)) (sem := barS)
        (d := back d) (by rw [show ((nbr c d : Thread nD τ), SemLoc.reg barS) = cell (nbr c d) none from rfl, duties_cell]; exact Finset.mem_erase.mpr ⟨back_ne d hd, Finset.mem_univ _⟩)
        (amount_cell t (nbr c d) none (back d)) () (T + owedL (owedBar c) l) (add_assoc _ _ _).symm) $$ [HO Ht Hs]
    · isplitr; · iapply (inv_at t K (nbr c d) none); iexact HR
      isplitl [HO]; · iexact HO
      isplitl [Ht]; · iexact Ht
      isplitl [Hs]
      · iapply (show iprop(∃ f, slotPts c (back d) f) ⊢ (exRd t).payload ((nbr c d : Thread nD τ), SemLoc.reg barS) 0 (back d) from
          Entails.of_eq ((payload_cell t (nbr c d) none (back d)).trans (by show iprop(∃ f, slotPts (nbr (nbr c d) (back d)) (back d) f) = _; rw [nbr_back])).symm)
        iexact Hs
      iapply (reached_at t K (nbr c d) none); iexact HR
    iintro HO
    iapply (wp_signals c T W p Q l fun e he => hl e (List.mem_cons_of_mem _ he)) $$ [HO Hts Hss]
    · isplitr; · iexact HR
      isplitl [HO]; · iexact HO
      isplitl [Hts] <;> iassumption
    iexact Hk

/-! ## The transfers -/

/-- A transfer into slot `d` of the device `d` places after: it gives up a part of slot 0 and that slot, and brings the
    credit to wait for its leaving. -/
theorem wp_sends (c : Dev nD) (W : Waits sig Unit) (p : Pr F) (Q : PUnit → sProp 𝕄) :
    ∀ l : List (Fin 32), (∀ d ∈ l, d ≠ 0) →
    iprop(records t K ∗ owes (c : Thread nD τ) (owedL (owedRecv c) l) W
        ∗ sepL (fun d => dutyTok ER (sendCell c d) 0 0) l ∗ sepL (fun d => dutyTok ER (recvCell (nbr c d) d) 0 0) l
        ∗ sepL (fun d => srcPts c d (gathered t c)) l ∗ sepL (fun d => iprop(∃ f, slotPts (nbr c d) d f)) l)
      ⊢ iprop(((owes (c : Thread nD τ) 0 W ∗ sepL (fun d => cred (tallyAt (sendCell c d) () N)) l) -∗ runs c p Q)
          -∗ runs c (sends (l.map fun d => (nbr c d, d)) p) Q)
  | [], _ => by
    iintro ⟨-, HO, -⟩ Hk
    iapply Hk
    isplitl [HO]; · iexact HO
    unfold sepL; iempintro
  | d :: l, hl => by
    have hd : d ≠ 0 := hl d List.mem_cons_self
    simp only [sepL_cons]
    iintro ⟨#HR, HO, ⟨Ht, Hts⟩, ⟨Hr, Hrs⟩, ⟨Hx, Hxs⟩, ⟨⟨%fn, Hs⟩, Hss⟩⟩ Hk
    unfold srcPts slotPts
    iapply (Rounds.wp_send_pointsTo 𝒱₀ ER (exRd t) (c : Thread nD τ) none (κ₁ := K (c, some (false, d))) (κ₂ := K (nbr c d, some (true, d)))
        (c' := (nbr c d : Thread nD τ)) (src := slotM 0) (dst := slotM d) (sS := .dma (sendS d)) (sem := .dma (recvS d))
        (r₁ := 0) (r₂ := 0) (d₁ := 0) (d₂ := 0) (fd := fn)
        (by rw [show ((c : Thread nD τ), SemLoc.dma (sendS d)) = sendCell c d from rfl, duties_cell, dut_xfer hd]; exact Finset.mem_singleton_self _)
        (by rw [show ((nbr c d : Thread nD τ), SemLoc.dma (recvS d)) = recvCell (nbr c d) d from rfl, duties_cell, dut_xfer hd]; exact Finset.mem_singleton_self _)
        () () N rfl (amount_cell t c (some (false, d)) 0) (amount_cell t (nbr c d) (some (true, d)) 0) (owedL (owedRecv c) l) rfl (W := W)
        (Entails.of_eq (payload_cell t c (some (false, d)) 0).symm)
        ((Entails.of_eq (slotPts_congr (nbr c d) d _ _ (landed_slot t c d fn))).trans (Entails.of_eq (payload_cell t (nbr c d) (some (true, d)) 0).symm))) $$ [HO Ht Hr Hx Hs]
    · isplitr; · iapply (inv_at t K c (some (false, d))); iexact HR
      isplitr; · iapply (inv_at t K (nbr c d) (some (true, d))); iexact HR
      isplitl [Hx]; · iexact Hx
      isplitl [Hs]; · iexact Hs
      isplitl [HO]; · iexact HO
      isplitl [Ht]; · iexact Ht
      isplitr; · iapply (reached_at t K c (some (false, d))); iexact HR
      isplitl [Hr]; · iexact Hr
      iapply (reached_at t K (nbr c d) (some (true, d))); iexact HR
    iintro ⟨HcS, HO⟩
    iapply (wp_sends c W p Q l fun e he => hl e (List.mem_cons_of_mem _ he)) $$ [HO Hts Hrs Hxs Hss]
    · isplitr; · iexact HR
      isplitl [HO]; · iexact HO
      isplitl [Hts]; · iexact Hts
      isplitl [Hrs]; · iexact Hrs
      isplitl [Hxs]
      · unfold srcPts; iexact Hxs
      unfold slotPts; iexact Hss
    iintro ⟨HO, Hcs⟩
    iapply Hk
    isplitl [HO]; · iexact HO
    isplitl [HcS]; · iexact HcS
    iexact Hcs

/-! ## The waits -/

/-- A wait on a transfer's semaphore waits for one slot's credit, whichever slots the wait names. -/
theorem wait_spec (c : Dev nD) (q : DmaSem sig) (d e : Fin 32) {hsrc : (slotM d).view.WordExact} {hdst : (slotM e).view.WordExact} (Φ : PUnit → sProp 𝕄) :
    wpE (defs₀ (F := F)) 𝒱₀ (c : Thread nD τ) none Set.univ (.waitDma2 q (slotM d) (slotM e) hsrc hdst) Φ = waitSpec (c : Thread nD τ) Set.univ (.dma q) N Φ :=
  wpE_waitDma2_eq 𝒱₀ (c : Thread nD τ) none Set.univ Φ

/-- Waiting for a row of slots to be filled brings each of them filled; -/
theorem wp_waitsRecv (c : Dev nD) (p : Pr F) (Q : PUnit → sProp 𝕄) :
    ∀ l : List (Fin 32), (∀ d ∈ l, d ≠ 0) → ∀ W : Waits sig Unit,
    iprop(records t K ∗ owes (c : Thread nD τ) 0 W ∗ sepL (fun d => cred (tallyAt (recvCell c d) () N)) l ∗ sepL (fun d => atPos ER (recvCell c d) 0 ∅ 0) l)
      ⊢ iprop((((∃ W', owes (c : Thread nD τ) 0 W') ∗ sepL (fun d => atPos ER (recvCell c d) 1 ∅ 0) l ∗ sepL (fun d => slotPts c d (gathered t c)) l) -∗ runs c p Q)
          -∗ runs c (waitsRecv l p) Q) := by
  intro l
  induction l with
  | nil =>
    intro _ W
    iintro ⟨-, HO, -⟩ Hk
    iapply Hk
    isplitl [HO]; · iexists W; iexact HO
    unfold sepL
    isplitl [] <;> iempintro
  | cons d l ih =>
    intro hl W
    have hd : d ≠ 0 := hl d List.mem_cons_self
    simp only [sepL_cons]
    iintro ⟨#HR, HO, ⟨Hc, Hcs⟩, ⟨Ha, Has⟩⟩ Hk
    iapply (Rounds.wp_wait_rest_token 𝒱₀ ER (exRd t) (c : Thread nD τ) none (κ := K (c, some (true, d))) (sm := .dma (recvS d))
        (wait_spec c (recvS d) 0 d) (Set.mem_univ _) () (O := 0) (W := W) (R := 0) (m := 0) (T := ∅) (k' := N)
        ((Nat.zero_add N).trans (expect_recv t c hd).symm)) $$ [HO Hc Ha]
    · isplitr; · iapply (inv_at t K c (some (true, d))); iexact HR
      isplitl [Hc]; · iexact Hc
      isplitl [HO]; · iexact HO
      isplitr; · rw [MayWait_zero]; iempintro
      iexact Ha
    iintro ⟨HO, Ha, -, Hp⟩
    ihave Hp := (Entails.of_eq (rest_recv t c hd)) $$ Hp
    iapply (ih (fun e he => hl e (List.mem_cons_of_mem _ he)) _) $$ [HO Hcs Has]
    · isplitr; · iexact HR
      isplitl [HO]; · iexact HO
      isplitl [Hcs] <;> iassumption
    iintro ⟨HO, Has, Hps⟩
    iapply Hk
    isplitl [HO]; · iexact HO
    isplitl [Ha Has]
    · isplitl [Ha]; · iexact Ha
      iexact Has
    isplitl [Hp]
    · iexact Hp
    iexact Hps

/-- for a row of transfers to have left, each one's part of slot 0. -/
theorem wp_waitsSend (c : Dev nD) (p : Pr F) (Q : PUnit → sProp 𝕄) :
    ∀ l : List (Fin 32), (∀ d ∈ l, d ≠ 0) → ∀ W : Waits sig Unit,
    iprop(records t K ∗ owes (c : Thread nD τ) 0 W ∗ sepL (fun d => cred (tallyAt (sendCell c d) () N)) l ∗ sepL (fun d => atPos ER (sendCell c d) 0 ∅ 0) l)
      ⊢ iprop((((∃ W', owes (c : Thread nD τ) 0 W') ∗ sepL (fun d => atPos ER (sendCell c d) 1 ∅ 0) l ∗ sepL (fun d => srcPts c d (gathered t c)) l) -∗ runs c p Q)
          -∗ runs c (waitsSend l p) Q) := by
  intro l
  induction l with
  | nil =>
    intro _ W
    iintro ⟨-, HO, -⟩ Hk
    iapply Hk
    isplitl [HO]; · iexists W; iexact HO
    unfold sepL
    isplitl [] <;> iempintro
  | cons d l ih =>
    intro hl W
    have hd : d ≠ 0 := hl d List.mem_cons_self
    simp only [sepL_cons]
    iintro ⟨#HR, HO, ⟨Hc, Hcs⟩, ⟨Ha, Has⟩⟩ Hk
    iapply (Rounds.wp_wait_rest_token 𝒱₀ ER (exRd t) (c : Thread nD τ) none (κ := K (c, some (false, d))) (sm := .dma (sendS d))
        (wait_spec c (sendS d) d 0) (Set.mem_univ _) () (O := 0) (W := W) (R := 0) (m := 0) (T := ∅) (k' := N)
        ((Nat.zero_add N).trans (expect_send t c hd).symm)) $$ [HO Hc Ha]
    · isplitr; · iapply (inv_at t K c (some (false, d))); iexact HR
      isplitl [Hc]; · iexact Hc
      isplitl [HO]; · iexact HO
      isplitr; · rw [MayWait_zero]; iempintro
      iexact Ha
    iintro ⟨HO, Ha, -, Hp⟩
    ihave Hp := (Entails.of_eq (rest_send t c hd)) $$ Hp
    iapply (ih (fun e he => hl e (List.mem_cons_of_mem _ he)) _) $$ [HO Hcs Has]
    · isplitr; · iexact HR
      isplitl [HO]; · iexact HO
      isplitl [Hcs] <;> iassumption
    iintro ⟨HO, Has, Hps⟩
    iapply Hk
    isplitl [HO]; · iexact HO
    isplitl [Ha Has]
    · isplitl [Ha]; · iexact Ha
      iexact Has
    isplitl [Hp]
    · iexact Hp
    iexact Hps

/-! ## Closing the cells -/

omit [FloatOps F] in
/-- A cell whose duties are all paid closes with its counter at zero. -/
theorem cell_done (c : Dev nD) (k : Kind) (R : ℕ) (hR : ∀ r, R ≤ r → (exRd (F := F) t).duties (cell c k) r = ∅) :
    iprop(records t K ∗ atPos ER (cell c k) R ∅ 0) ⊢ (|={Set.univ}=> semVal (cell c k) 0 : sProp 𝕄) := by
  iintro ⟨#HR, Ha⟩
  iapply (Rounds.cell_close ER (exRd t) (Set.mem_univ (K (c, k))) (fun h => h) (R := R) hR)
  isplitr; · iapply (inv_at t K c k); iexact HR
  iexact Ha

omit [FloatOps F] in
/-- A cell of offset 0 has no duties at all. -/
theorem duties_self (c : Dev nD) (b : Bool) : ∀ r, 0 ≤ r → (exRd (F := F) t).duties (cell c (some (b, 0))) r = ∅ := fun r _ => by
  rcases Nat.eq_zero_or_pos r with rfl | h
  · rw [duties_cell]; rfl
  · exact duties_later t _ r h

omit [FloatOps F] in
/-- All the cells of one direction close. -/
theorem cells_done (c : Dev nD) (b : Bool) :
    iprop(records t K ∗ atPos ER (cell c (some (b, 0))) 0 ∅ 0 ∗ sepL (fun d => atPos ER (cell c (some (b, d))) 1 ∅ 0) offs)
      ⊢ (|={Set.univ}=> bigSep Finset.univ fun d : Fin 32 => semVal (cell c (some (b, d))) 0 : sProp 𝕄) := by
  have h : ∀ d : Fin 32, iprop(records t K ∗ atPos ER (cell c (some (b, d))) 1 ∅ 0) ⊢ (|={Set.univ}=> semVal (cell c (some (b, d))) 0 : sProp 𝕄) :=
    fun d => cell_done t K c _ 1 (duties_later t _)
  rw [bigSep_univ_at _ (0 : Fin 32), sepL_offs]
  iintro ⟨#HR, H0, Hs⟩
  imod (cell_done t K c (some (b, 0)) 0 (duties_self t c b)) $$ [H0] with H0
  · isplitr; · iexact HR
    iexact H0
  imod ((BI.bigSep_with_persistent (R := records t K) fun d _ => h d).trans (bigSep_fupd (Finset.univ.erase (0 : Fin 32)) fun d => (semVal (cell c (some (b, d))) 0 : sProp 𝕄))) $$ [Hs] with Hs
  · isplitr; · iexact HR
    iexact Hs
  imodintro
  isplitl [H0]; · iexact H0
  iexact Hs

end Cert.Exchange

end
-- ==== Proof.Body.lean ====
/-
The body of one device, run through: from its block staged, its landing buffer at any contents and its share of the
exchange's ghost state, to its result stored and every one of its semaphores back at zero.
-/
module

public import proofs.«01_k».proof.Proof.Steps
public import proofs.«01_k».proof.Proof.Gen.KernelIdeal.Points

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Contents -/

/-- Device `c`'s block, as staged. -/
def xstg (c : Dev nD) : (cc0_stg0_0 : Ref sig .tc).ty.Contents (Elt F) :=
  (win0_0.blk (0 : Fin 1)).view.read (Elt F) (m ((c : Thread nD τ).loc main_arg0))
/-- What device `c` puts in its slot 0. -/
def tops (c : Dev nD) : Vec F S1x8x256 .f32 := top8 (xstg m c)
/-- Device `c`'s result. -/
def outAt (c : Dev nD) : (cc0_stg1_0 : Ref sig .tc).ty.Contents (Elt F) := merge8 (gathered (tops m) c)

/-! ## The ghost state -/

variable (K : Dev nD × Kind → ℕ)

/-- What device `c` starts the exchange with: what everybody knows, its places at its own cells, and the right to pay
    each duty it pays. -/
def ghost (c : Dev nD) : sProp 𝕄 :=
  iprop(records (tops m) K ∗ atPos ER (barCell c) 0 ∅ 0
    ∗ (bigSep Finset.univ fun d : Fin 32 => atPos ER (sendCell c d) 0 ∅ 0) ∗ (bigSep Finset.univ fun d : Fin 32 => atPos ER (recvCell c d) 0 ∅ 0)
    ∗ sepL (fun d => dutyTok ER (barCell (nbr c d)) 0 (back d)) offs ∗ sepL (fun d => dutyTok ER (sendCell c d) 0 0) offs
    ∗ sepL (fun d => dutyTok ER (recvCell (nbr c d) d) 0 0) offs)

/-- With it, the credit of what it is to wait for. -/
def start (c : Dev nD) : sProp 𝕄 :=
  iprop((∃ K, ghost m K c) ∗ cred (tallyAt (barCell c) () 31) ∗ sepL (fun d => cred (tallyAt (recvCell c d) () N)) offs ∗ levAts L lv)

/-- Before the body: what a device starts with, and its landing buffer at whatever it holds. -/
def Φ₀ (c : Dev nD) : sProp 𝕄 := iprop(start m c ∗ ∃ f, bufPts c f)
/-- At the end: the landing buffer full, and every semaphore at zero. -/
def Φ₁ (c : Dev nD) : sProp 𝕄 :=
  iprop(bufPts c (gathered (tops m) c) ∗ semVal (barCell c) 0
    ∗ (bigSep Finset.univ fun d : Fin 32 => semVal (sendCell c d) 0) ∗ bigSep Finset.univ fun d : Fin 32 => semVal (recvCell c d) 0)

/-- The staging library's data of the one call: its arrays, what each window holds afterwards, what is owed. -/
def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

omit [FloatOps F] in
/-- Owning a whole buffer through its view is holding the buffer at those contents. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## Reads and writes of whole buffers -/

omit [FloatOps F] in
/-- The start of a two-dimensional buffer is zero at every dimension; -/
theorem zero2 : (![0, 0] : Fin 2 → Nat) = fun _ => 0 := funext fun a => by fin_cases a <;> rfl
omit [FloatOps F] in
/-- so is that of a three-dimensional one. -/
theorem zero3 : (![0, 0, 0] : Fin 3 → Nat) = fun _ => 0 := funext fun a => by fin_cases a <;> rfl
omit [FloatOps F] in
/-- The load of the whole block reads its contents; -/
theorem read_x (f : (cc0_stg0_0 : Ref sig .tc).ty.Contents (Elt F)) : (xM : Memref sig .tc .vmem S256x1024 .f32).view.readAt (Elt F) rX.toLoadRect f = f :=
  Memref.readAt_unit_zero (Elt F) cc0_stg0_0 zero2 _ f
omit [FloatOps F] in
/-- the load of the whole landing buffer reads its contents; -/
theorem read_g (f : (cc0_scratch0 : Ref sig .tc).ty.Contents (Elt F)) : (gM : Memref sig .tc .vmem S32x8x256 .f32).view.readAt (Elt F) rG.toLoadRect f = f :=
  Memref.readAt_unit_zero (Elt F) cc0_scratch0 zero3 _ f
omit [FloatOps F] in
/-- the store over the whole result leaves what is stored. -/
theorem write_o (f w : (cc0_stg1_0 : Ref sig .tc).ty.Contents (Elt F)) :
    ((oM : Memref sig .tc .vmem S256x8 .f32).access rO : View sig .tc _ _ _).write (Elt F) f w Finset.univ = w :=
  Memref.write_access_unit_zero_univ (Elt F) cc0_stg1_0 zero2 _ f w

omit [FloatOps F] in
/-- The whole buffer as its slot 0 and, for each offset, the slot of the offset back. -/
theorem slots_back (c : Dev nD) (f : Slots F c) : bufPts c f ⊢ iprop(slotPts c 0 f ∗ sepL (fun d => iprop(∃ f, slotPts c (back d) f)) offs) := by
  have h1 (d : Fin 32) : slotPts c (back d) f ⊢ (iprop(∃ f, slotPts c (back d) f) : sProp 𝕄) := by iintro H; iexists f; iexact H
  have hm : (bigSep (Finset.univ.erase 0) fun d : Fin 32 => (slotPts c (back d) f : sProp 𝕄)) ⊢ bigSep (Finset.univ.erase 0) fun d : Fin 32 => iprop(∃ f, slotPts c (back d) f) :=
    bigSep_mono fun d _ => h1 d
  rw [slots_split, bigSep_univ_equiv backEquiv, sepL_offs, bigSep_univ_at _ (0 : Fin 32)]
  iintro ⟨H0, Hs⟩
  isplitl [H0]
  · iapply (Entails.of_eq (show (slotPts c (back 0) f : sProp 𝕄) = slotPts c 0 f by rw [back_zero])); iexact H0
  iapply hm; iexact Hs

omit [FloatOps F] in
/-- The parts of slot 0 and the other slots make up the whole buffer. -/
theorem slots_join (c : Dev nD) (f : Slots F c) :
    iprop(srcPts c 0 f ∗ sepL (fun d => srcPts c d f) offs ∗ sepL (fun d => slotPts c d f) offs) ⊢ (bufPts c f : sProp 𝕄) := by
  rw [slots_split, bigSep_offs, src_split, bigSep_offs]
  iintro ⟨H0, Hs, Hd⟩
  isplitl [H0 Hs]
  · isplitl [H0] <;> iassumption
  iexact Hd

omit [FloatOps F] in
/-- The parts of slot 0. -/
theorem src_parts (c : Dev nD) (f : Slots F c) : slotPts c 0 f = (iprop(srcPts c 0 f ∗ sepL (fun d => srcPts c d f) offs) : sProp 𝕄) := by
  rw [src_split, bigSep_offs]

/-- Slot 0 after the device's own store, as its parts. -/
theorem stored_parts (c : Dev nD) (f : Slots F c) :
    ((gM.access (slotR 0)).loc (c : Thread nD τ) ↦[slotSet 0]{fullShare} ((gM.access (slotR 0)).write (Elt F) f (top8 (xstg m c)) Finset.univ) : sProp 𝕄)
      ⊢ iprop(srcPts c 0 (gathered (tops m) c) ∗ sepL (fun d => srcPts c d (gathered (tops m) c)) offs) :=
  Entails.of_eq ((slotPts_eq c 0 _).symm.trans ((slotPts_congr c 0 _ _ (stored_slot (tops m) c f)).trans (src_parts c _)))

omit [FloatOps F] in
/-- What the barrier wait brings: the slots this device is to fill. -/
theorem bar_pays (t : Dev nD → Vec F S1x8x256 .f32) (c : Dev nD) :
    bigSep ((exRd (F := F) t).duties ((c : Thread nD τ), .reg barS) 0 \ ∅) (fun e => (exRd (F := F) t).payload ((c : Thread nD τ), .reg barS) 0 e)
      ⊢ sepL (fun e => iprop(∃ f, slotPts (nbr c e) e f)) offs :=
  Entails.of_eq ((rest_bar t c).trans (sepL_offs _).symm)

/-- Device `c` holds the whole buffer `b` at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body starts from, with the names of the cells' invariants given; -/
def bodyPre (c : Dev nD) : sProp 𝕄 :=
  iprop((ghost m K c ∗ cred (tallyAt (barCell c) () 31) ∗ sepL (fun d => cred (tallyAt (recvCell c d) () N)) offs ∗ levAts L lv ∗ ∃ f, bufPts c f)
    ∗ (dats m 0 c).owesAt () t0_0.castSucc
    ∗ (∃ d, stg c cc0_stg0_0 ((dats m 0 c).before (0 : Fin 2) t0_0 d))
    ∗ (∃ d, stg c cc0_stg1_0 ((dats m 0 c).before (1 : Fin 2) t0_0 d)))

/-- what it ends with. -/
def bodyPost (c : Dev nD) : sProp 𝕄 :=
  iprop(Φ₁ m c ∗ (dats m 0 c).owesAt () t0_0.succ ∗ stg c cc0_stg0_0 (xstg m c) ∗ stg c cc0_stg1_0 (outAt m c))

/-- The last part: the slots read, their eight greatest stored. -/
theorem wp_finish (c : Dev nD) (f : (cc0_stg1_0 : Ref sig .tc).ty.Contents (Elt F)) (Q : PUnit → sProp 𝕄) :
    iprop(bufPts c (gathered (tops m) c) ∗ (((c : Thread nD τ).loc cc0_stg1_0) ↦{fullShare} f))
      ⊢ iprop(((bufPts c (gathered (tops m) c) ∗ (((c : Thread nD τ).loc cc0_stg1_0) ↦{fullShare} outAt m c)) -∗ |={Set.univ}=> Q ⟨⟩)
          -∗ runs c finish Q) := by
  unfold finish
  iintro ⟨Hg, Ho⟩ Hk
  iapply (wp_load 𝒱₀ (c : Thread nD τ) none Set.univ (m := gM) (Finset.subset_univ _)) $$ Hg; iintro Hg
  rw [read_g]
  iapply (wp_load 𝒱₀ (c : Thread nD τ) none Set.univ (m := oM) (Finset.subset_univ _)) $$ Ho; iintro Ho
  iapply (wp_store 𝒱₀ (c : Thread nD τ) none Set.univ (m := oM) (r := rO) (Mk := Finset.univ) (Finset.subset_univ _)) $$ Ho; iintro Ho
  rw [write_o, wp_ret]
  iapply Hk
  isplitl [Hg]; · iexact Hg
  iexact Ho

/-- No offset of the list is 0. -/
theorem ne_of_mem_offs : ∀ d ∈ offs, d ≠ 0 := fun d h => (mem_offs d).mp h

set_option maxHeartbeats 1600000 in
/-- The body, run through effect by effect. -/
theorem sound_body (c : Dev nD) (Kt : PUnit → sProp 𝕄) :
    iprop(bodyPre m K c ∗ (bodyPost m c -∗ Kt ⟨⟩))
      ⊢ runs c (cc0_body xM (Memref.isWhole_whole _) oM (Memref.isWhole_whole _) gM (Memref.isWhole_whole _) cc0_scratch1 cc0_scratch2) Kt := by
  rw [body_eq]
  simp only [wp_deviceId]
  unfold looped
  rw [sigDevs_eq, sendDevs_eq]
  unfold bodyPre ghost
  iintro ⟨⟨⟨⟨#HR, HaB, HaS, HaV, HtB, HtS, HtV⟩, HcB, HcV, #Hlev, ⟨%f0, Hbuf⟩⟩, Ho, ⟨%d0, %g0, %hg0, Hx⟩, ⟨%d1, %g1, %hg1, Hout⟩⟩, Hk⟩
  have hx : g0 = xstg m c := by rw [hg0]; unfold Dat.before; rw [if_pos (fetch0_0 t0_0)]; rfl
  subst hx
  unfold Dat.owesAt Pipeline.owesWithin
  icases Ho with ⟨%W, %hW, HO⟩
  rw [show (dats m 0 c).owed t0_0.castSucc = O₀ c from rfl]
  unfold O₀
  ihave Hsl := (slots_back c f0) $$ Hbuf
  icases Hsl with ⟨Hs0, Hsl⟩
  ihave HaS' := (Entails.of_eq (bigSep_offs (F := F) fun d => atPos ER (sendCell c d) 0 ∅ 0)) $$ HaS
  icases HaS' with ⟨HaS0, HaS⟩
  ihave HaV' := (Entails.of_eq (bigSep_offs (F := F) fun d => atPos ER (recvCell c d) 0 ∅ 0)) $$ HaV
  icases HaV' with ⟨HaV0, HaV⟩
  -- the signals, each with the slot the signalled device is to fill
  iapply (wp_signals (tops m) K c (owedL (owedRecv c) offs) W _ Kt offs ne_of_mem_offs) $$ [HO HtB Hsl]
  · isplitr; · iexact HR
    isplitl [HO]; · iexact HO
    isplitl [HtB] <;> iassumption
  iintro HO
  -- its own eight values into slot 0
  iapply (wp_load 𝒱₀ (c : Thread nD τ) none Set.univ (m := xM) (Finset.subset_univ _)) $$ Hx; iintro Hx
  rw [read_x]
  ihave Hs0 := (Entails.of_eq (slotPts_eq c 0 f0)) $$ Hs0
  iapply (wp_load 𝒱₀ (c : Thread nD τ) none Set.univ (m := gM) (S := slotSet 0) ((View.set_slice gM.view (slotR 0)).symm.trans (View.set_slice_whole _ _)).subset) $$ Hs0; iintro Hs0
  iapply (wp_store 𝒱₀ (c : Thread nD τ) none Set.univ (m := gM) (r := slotR 0) (Mk := Finset.univ) (S := slotSet 0) (View.set_slice_whole _ _).subset) $$ Hs0; iintro Hs0
  ihave Hs0 := (stored_parts m c f0) $$ Hs0
  icases Hs0 with ⟨Hp0, Hps⟩
  -- the wait for every other device's signal: the slots this device is to fill
  iapply (Rounds.wp_wait_rest_token 𝒱₀ ER (exRd (tops m)) (c : Thread nD τ) none (κ := K (c, none))
      (wpE_semWait_eq 𝒱₀ (c : Thread nD τ) none Set.univ) (Set.mem_univ _) () (O := owedL (owedRecv c) offs) (W := W) (R := 0) (m := 0) (T := ∅)
      ((Nat.zero_add 31).trans (expect_bar (tops m) c).symm)) $$ [HcB HO HaB]
  · isplitr; · iapply (inv_at (tops m) K c none); iexact HR
    isplitl [HcB]; · iexact HcB
    isplitl [HO]; · iexact HO
    isplitr; · iapply (mayWait_bar c); iexact Hlev
    iexact HaB
  iintro ⟨HO, HaB, -, Hpay⟩
  ihave Hpay := (bar_pays (tops m) c) $$ Hpay
  -- the transfers, and the waits for them
  iapply (wp_sends (tops m) K c _ _ Kt offs ne_of_mem_offs) $$ [HO HtS HtV Hps Hpay]
  · isplitr; · iexact HR
    isplitl [HO]; · iexact HO
    isplitl [HtS]; · iexact HtS
    isplitl [HtV]; · iexact HtV
    isplitl [Hps]; · iexact Hps
    iexact Hpay
  iintro ⟨HO, HcS⟩
  iapply (wp_waitsRecv (tops m) K c _ Kt offs ne_of_mem_offs _) $$ [HO HcV HaV]
  · isplitr; · iexact HR
    isplitl [HO]; · iexact HO
    isplitl [HcV] <;> iassumption
  iintro ⟨⟨%W1, HO⟩, HaV, Hsl⟩
  iapply (wp_waitsSend (tops m) K c _ Kt offs ne_of_mem_offs _) $$ [HO HcS HaS]
  · isplitr; · iexact HR
    isplitl [HO]; · iexact HO
    isplitl [HcS] <;> iassumption
  iintro ⟨⟨%W2, HO⟩, HaS, Hps⟩
  -- the cells close
  imod (cells_done (tops m) K c false) $$ [HaS0 HaS] with HzS
  · isplitr; · iexact HR
    isplitl [HaS0] <;> iassumption
  imod (cells_done (tops m) K c true) $$ [HaV0 HaV] with HzV
  · isplitr; · iexact HR
    isplitl [HaV0] <;> iassumption
  imod (cell_done (tops m) K c none 1 (duties_later (tops m) _)) $$ [HaB] with HzB
  · isplitr; · iexact HR
    iexact HaB
  ihave Hbuf := (slots_join c (gathered (tops m) c)) $$ [Hp0 Hps Hsl]
  · isplitl [Hp0]; · iexact Hp0
    isplitl [Hps] <;> iassumption
  -- the result
  iapply (wp_finish m c g1 Kt) $$ [Hbuf Hout]
  · isplitl [Hbuf] <;> iassumption
  iintro ⟨Hbuf, Hout⟩
  imodintro
  iapply Hk
  unfold bodyPost Φ₁ Dat.owesAt Pipeline.owesWithin
  rw [show (dats m 0 c).owed t0_0.succ = 0 from rfl]
  isplitl [Hbuf HzB HzS HzV]
  · isplitl [Hbuf]; · iexact Hbuf
    isplitl [HzB]; · iexact HzB
    isplitl [HzS] <;> iassumption
  isplitl [HO]
  · iexists W2
    isplitr; · ipureintro; exact fun _ _ => Or.inl trivial
    iexact HO
  isplitl [Hx]
  · iexists _; isplitr; · (ipureintro; rfl)
    iexact Hx
  iexists _; isplitr; · (ipureintro; rfl)
  iexact Hout

set_option maxRecDepth 8000 in
/-- What the staging library hands to the body. -/
def bodyPre' (c : Dev nD) : sProp 𝕄 :=
  iprop(Φ₀ m c ∗ (dats m 0 c).owesAt () t0_0.castSucc
    ∗ (∃ d, stg c cc0_stg0_0 ((dats m 0 c).before (0 : Fin 2) t0_0 d))
    ∗ (∃ d, stg c cc0_stg1_0 ((dats m 0 c).before (1 : Fin 2) t0_0 d)))

set_option maxRecDepth 8000 in
/-- What the staging library asks of the body on device `c`. -/
theorem body_obligation (c : Dev nD) : BodyObligation (dats (F := F) m 0 c) (defs₀ (F := F)) 𝒱₀ () Set.univ := fun t => by
  rw [show t = t0_0 from fin_N0 t]
  rw [show ∀ Φ : Fin cfg0.W → sProp 𝕄, bigSep Finset.univ Φ = iprop(Φ (0 : Fin 2) ∗ Φ (1 : Fin 2)) from fun Φ => bigSep_W0 Φ,
    show ∀ Φ : Fin cfg0.W → sProp 𝕄, bigSep Finset.univ Φ = iprop(Φ (0 : Fin 2) ∗ Φ (1 : Fin 2)) from fun Φ => bigSep_W0 Φ]
  simp only [owns_whole_eq]
  show bodyPre' m c ⊢ runs c (cc0_body xM (Memref.isWhole_whole _) oM (Memref.isWhole_whole _) gM (Memref.isWhole_whole _) cc0_scratch1 cc0_scratch2)
    (fun _ => bodyPost m c)
  unfold bodyPre' Φ₀ start
  iintro ⟨⟨⟨⟨%K, Hg⟩, H1, H2, H3⟩, Hbuf⟩, Ho, Hx, Hout⟩
  iapply (sound_body m K c fun _ => bodyPost m c)
  unfold bodyPre
  isplitr []
  · isplitl [Hg H1 H2 H3 Hbuf]
    · isplitl [Hg]; · iexact Hg
      isplitl [H1]; · iexact H1
      isplitl [H2]; · iexact H2
      isplitl [H3]; · iexact H3
      iexact Hbuf
    isplitl [Ho]; · iexact Ho
    isplitl [Hx] <;> iassumption
  · iintro H; iexact H

end Cert.Exchange

end
-- ==== Proof.Launch.lean ====
/-
The launch: the cells of all the devices are set up together, the right to pay each duty is dealt to the device that
pays it, and the run of the whole mesh follows from the body of each device.
-/
module

public import proofs.«01_k».proof.Proof.Body
public import Idealize.ShloMosaic.Lib.Pipeline.CollectiveSegs

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: any contents, every semaphore at zero, any generator registers. -/
def s₀ : MemSt nD τ sig (Elt F) := ⟨m, fun _ => 0, ρ⟩

set_option maxRecDepth 8000 in
/-- The exchange's transfer semaphores are different, and none is one of the staging's. -/
theorem ownSemFacts : Pipeline.OwnSemFacts cfg0.spec osem :=
  ⟨by decide +kernel, osem_injective, by decide +kernel⟩

/-- Every array of the call is held whole. -/
theorem share_eq (c : Dev nD) (w : Fin cfg0.W) : (dats m 0 c).share w = fullShare := by unfold Dat.share; split <;> rfl

/-! ## The cells and the rights to pay, as minted -/

/-- All cells of all devices; -/
def exCells : Finset (GSem nD τ sig) := Finset.univ.map ⟨kcell, kcell_injective⟩

/-- The rights to pay a device's own cells: for each offset its barrier's duty of that name, and the duty of the
    transfer leaving and of the one arriving. -/
def tokAt (c : Dev nD) : Option Bool × Fin 32 → GSem nD τ sig × ℕ × Fin 32
  | (none, d) => (barCell c, 0, d)
  | (some b, d) => (cell c (some (b, d)), 0, 0)
/-- a duty's token, of the device and kind given; -/
abbrev tokOf (x : Dev nD × (Option Bool × Fin 32)) : GSem nD τ sig × ℕ × Fin 32 := tokAt x.1 x.2

/-- different duties have different tokens; -/
theorem tokOf_injective : Function.Injective tokOf := by
  rintro ⟨c, _ | b, d⟩ ⟨c', _ | b', d'⟩ h
  · obtain ⟨hc, -⟩ := cell_eq_iff.mp (congrArg Prod.fst h)
    have hd : d = d' := congrArg (fun x : GSem nD τ sig × ℕ × Fin 32 => x.2.2) h
    exact Prod.ext hc (Prod.ext rfl hd)
  · cases (cell_eq_iff.mp (congrArg Prod.fst h)).2
  · cases (cell_eq_iff.mp (congrArg Prod.fst h)).2
  · obtain ⟨hc, hk⟩ := cell_eq_iff.mp (congrArg Prod.fst h)
    cases hk; exact Prod.ext hc rfl

/-- all tokens; -/
def exToks : Finset (GSem nD τ sig × ℕ × Fin 32) := Finset.univ.map ⟨tokOf, tokOf_injective⟩

/-- what the launch starts the ghost state from; -/
def u₀ : UU := (initOf (Pipeline.cells cfgs cellOf_inj) (Pipeline.launchToks cfgs cellOf_inj), initOf exCells exToks)

/-- the tokens of a device's own cells. -/
def toks (c : Dev nD) : sProp 𝕄 :=
  iprop((bigSep Finset.univ fun d : Fin 32 => dutyTok ER (barCell c) 0 d)
    ∗ (bigSep Finset.univ fun d : Fin 32 => dutyTok ER (sendCell c d) 0 0) ∗ bigSep Finset.univ fun d : Fin 32 => dutyTok ER (recvCell c d) 0 0)

/-- What a device is dealt at launch. -/
def G (c : Dev nD) : sProp 𝕄 :=
  iprop((bigSep Finset.univ fun k : Kind => roundState ER (exRd (tops m)) (kcell (c, k)) 0)
    ∗ (bigSep Finset.univ fun k : Kind => iprop(atPos ER (kcell (c, k)) 0 ∅ 0 ∗ reached ER (kcell (c, k)) 0)) ∗ toks c)

/-- What it starts the exchange from. -/
def G' (c : Dev nD) : sProp 𝕄 := iprop(∃ K, ghost m K c)

omit [FloatOps F] in
/-- Over the three kinds; -/
theorem bigSep_optBool (Φ : Option Bool → sProp 𝕄) : bigSep Finset.univ Φ = iprop(Φ none ∗ Φ (some false) ∗ Φ (some true)) :=
  bigSep_univ_eq_bigSepL [none, some false, some true] (by decide) (by decide) Φ

omit [FloatOps F] in
/-- over the two directions. -/
theorem bigSep_bool (Φ : Bool → sProp 𝕄) : bigSep Finset.univ Φ = iprop(Φ false ∗ Φ true) := bigSep_univ_eq_bigSepL [false, true] (by decide) (by decide) Φ

omit [FloatOps F] in
/-- Over a device's cells: the barrier's, those of transfers leaving, those of transfers arriving. -/
theorem bigSep_kind (Φ : Kind → sProp 𝕄) :
    bigSep Finset.univ Φ = iprop(Φ none ∗ (bigSep Finset.univ fun d : Fin 32 => Φ (some (false, d))) ∗ bigSep Finset.univ fun d : Fin 32 => Φ (some (true, d))) := by
  rw [bigSep_univ_equiv (Equiv.optionEquivSumPUnit.{0} (Bool × Fin 32)).symm Φ, bigSep_univ_sum, bigSep_univ_prod, bigSep_bool,
    bigSep_univ_of_subsingleton PUnit.unit]
  exact BI.Entails.antisymm BI.sep_comm BI.sep_comm

/-- The ghost state gives every device its part. -/
theorem fund_ex : BI.own (ER (initOf exCells exToks)) ⊢ (|==> bigSep Finset.univ (G m) : sProp 𝕄) := by
  have hX (Φ : GSem nD τ sig → sProp 𝕄) : bigSep exCells Φ = bigSep Finset.univ fun c : Dev nD => bigSep Finset.univ fun k : Kind => Φ (kcell (c, k)) := by
    unfold exCells; rw [bigSep_map, bigSep_univ_prod]; rfl
  have hT : bigSep exToks (fun x => (dutyTok ER x.1 x.2.1 x.2.2 : sProp 𝕄)) = bigSep Finset.univ fun c : Dev nD => toks c := by
    unfold exToks; rw [bigSep_map, bigSep_univ_prod]
    exact bigSep_congr fun c _ => by unfold toks; rw [bigSep_univ_prod, bigSep_optBool]; rfl
  iintro HX
  imod (Rounds.fund ER (exRd (tops m)) exCells exToks) $$ HX with ⟨Hst, Hr, Hat, Htok⟩
  imodintro
  ihave Hst' := (Entails.of_eq (hX fun g => roundState ER (exRd (tops m)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The kernel's own semaphores at zero are the two cells of each transfer at zero; -/
theorem ownSems0_eq (c : Dev nD) : (Pipeline.ownSems0 (Ix := Unit) (Name := ℕ) (U := UU) (Lvl := ℕ) (Val := Elt F) (τ := τ) osem c : sProp 𝕄)
    = iprop((bigSep Finset.univ fun d : Fin 32 => semVal (sendCell c d) 0) ∗ bigSep Finset.univ fun d : Fin 32 => semVal (recvCell c d) 0) := by
  unfold Pipeline.ownSems0; rw [bigSep_univ_prod, bigSep_bool]; rfl
omit [FloatOps F] in
/-- the one other is the barrier's; -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- together they are all of the device's cells. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Kind => semVal (kcell (c, k)) 0 : sProp 𝕄) := by
  rw [ownSems0_eq, unscopedSems0_eq, bigSep_kind]
  iintro ⟨⟨HS, HV⟩, HB⟩
  isplitl [HB]; · iexact HB
  isplitl [HS]; · iexact HS
  iexact HV

/-- The invariants of a device's cells are set up from its semaphores at zero. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (exRd (tops m)) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Kind => semVal (kcell (c, k)) 0) ∗ bigSep Finset.univ fun k : Kind => roundState ER (exRd (tops m)) (kcell (c, k)) 0)
      ⊢ (|={Set.univ}=> bigSep Finset.univ fun k => iprop(∃ κ : ℕ, cellInv ER (exRd (tops m)) κ (kcell (c, k))) : sProp 𝕄) from by
        rw [← bigSep_sep']
        exact (bigSep_mono fun k _ => (Rounds.body_intro ER (exRd (tops m)) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## Dealing the rights to pay -/

/-- The rights of the duties device `c` pays. -/
def payToks (c : Dev nD) : sProp 𝕄 :=
  iprop(sepL (fun d => dutyTok ER (barCell (nbr c d)) 0 (back d)) offs ∗ sepL (fun d => dutyTok ER (sendCell c d) 0 0) offs
    ∗ sepL (fun d => dutyTok ER (recvCell (nbr c d) d) 0 0) offs)

omit [FloatOps F] in
/-- A resource for each device and offset, dealt to the device that offset back. -/
theorem deal (Φ : Dev nD → Fin 32 → sProp 𝕄) :
    (bigSep Finset.univ fun c : Dev nD => bigSep Finset.univ fun d : Fin 32 => Φ c d) = bigSep Finset.univ fun c : Dev nD => bigSep Finset.univ fun d : Fin 32 => Φ (nbr c d) d := by
  rw [bigSep_univ_comm, bigSep_congr (Ψ := fun d : Fin 32 => bigSep Finset.univ fun c : Dev nD => Φ (nbr c d) d)
    (fun d _ => bigSep_univ_equiv (nbrEquiv d) (fun c : Dev nD => Φ c d)), bigSep_univ_comm]

omit [FloatOps F] in
/-- Of a resource for each offset, the offsets 1 to 31. -/
theorem drop_zero (Φ : Fin 32 → sProp 𝕄) : bigSep Finset.univ Φ ⊢ sepL Φ offs := by
  rw [bigSep_offs]; iintro ⟨-, H⟩; iexact H

omit [FloatOps F] in
/-- The tokens dealt by cell, dealt again to the devices that pay them. -/
theorem toks_around : (bigSep Finset.univ fun c : Dev nD => (toks c : sProp 𝕄)) ⊢ bigSep Finset.univ fun c : Dev nD => payToks c := by
  have hb : (bigSep Finset.univ fun c : Dev nD => bigSep Finset.univ fun d : Fin 32 => (dutyTok ER (barCell c) 0 d : sProp 𝕄))
      = bigSep Finset.univ fun c : Dev nD => bigSep Finset.univ fun d : Fin 32 => dutyTok ER (barCell (nbr c d)) 0 (back d) := by
    rw [bigSep_congr (Ψ := fun c : Dev nD => bigSep Finset.univ fun d : Fin 32 => dutyTok ER (barCell c) 0 (back d))
      (fun c _ => bigSep_univ_equiv backEquiv (fun d : Fin 32 => (dutyTok ER (barCell c) 0 d : sProp 𝕄))), deal fun c d => dutyTok ER (barCell c) 0 (back d)]
  unfold toks payToks
  rw [bigSep_sep', bigSep_sep', bigSep_sep', bigSep_sep', hb, deal fun c d => dutyTok ER (recvCell c d) 0 0]
  exact sep_mono (bigSep_mono fun c _ => drop_zero _) (sep_mono (bigSep_mono fun c _ => drop_zero _) (bigSep_mono fun c _ => drop_zero _))

/-- What stays with device `c`. -/
def linear (c : Dev nD) : sProp 𝕄 := iprop((bigSep Finset.univ fun k : Kind => atPos ER (kcell (c, k)) 0 ∅ 0) ∗ payToks c)

/-- With what everybody knows, a device's part is what it starts the exchange from; -/
theorem ghost_intro (K : Dev nD × Kind → ℕ) (c : Dev nD) : iprop(records (tops m) K ∗ linear c) ⊢ G' m c := by
  unfold linear payToks G' ghost
  rw [bigSep_kind]
  iintro ⟨#HR, ⟨HaB, HaS, HaV⟩, HtB, HtS, HtV⟩
  iexists K
  isplitr; · iexact HR
  isplitl [HaB]; · iexact HaB
  isplitl [HaS]; · iexact HaS
  isplitl [HaV]; · iexact HaV
  isplitl [HtB]; · iexact HtB
  isplitl [HtS]; · iexact HtS
  iexact HtV

/-- so for all devices at once. -/
theorem regroup :
    (bigSep Finset.univ fun c : Dev nD => iprop((bigSep Finset.univ fun k => iprop(∃ κ : ℕ, cellInv ER (exRd (tops m)) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Kind => iprop(∃ κ : ℕ, cellInv ER (exRd (tops m)) κ (kcell ck))),
    bigSep_congr (s := Finset.univ) (fun (c : Dev nD) _ => bigSep_sep' Finset.univ (fun k : Kind => (atPos ER (kcell (c, k)) 0 ∅ 0 : sProp 𝕄)) (fun k => reached ER (kcell (c, k)) 0)),
    bigSep_sep', ← bigSep_univ_prod (fun ck : Dev nD × Kind => (reached ER (kcell ck) 0 : sProp 𝕄))]
  iintro ⟨HI, ⟨Hat, #HR⟩, Htok⟩
  ihave HK := (BI.bigSep_exists_pi Finset.univ (fun (ck : Dev nD × Kind) (κ : ℕ) => (cellInv ER (exRd (tops m)) κ (kcell ck) : sProp 𝕄))) $$ HI
  icases HK with ⟨%K, #HI⟩
  ihave Htk := (toks_around (F := F)) $$ Htok
  iapply (BI.bigSep_with_persistent (R := records (tops m) K) fun c _ => ghost_intro m K c)
  isplitr
  · unfold records; isplitl; · iexact HI
    iexact HR
  · iapply (Entails.of_eq (bigSep_sep' Finset.univ (fun c : Dev nD => bigSep Finset.univ fun k : Kind => (atPos ER (kcell (c, k)) 0 ∅ 0 : sProp 𝕄)) payToks).symm)
    isplitl [Hat]; · iexact Hat
    iexact Htk

/-- The set-up of every device's cells, under one update. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit each device may wait for -/

/-- What device `a` owes an own or other device's cell, summed over the offsets. -/
theorem owed_at (a : Dev nD) (g : GSem nD τ sig) :
    O₀ a g () = (∑ d ∈ Finset.univ.erase (0 : Fin 32), owedRecv a d g ()) + ∑ d ∈ Finset.univ.erase (0 : Fin 32), owedBar a d g () := by
  show owedL (owedRecv a) offs g () + owedL (owedBar a) offs g () = _
  rw [owedL_apply _ g () offs offs_nodup, owedL_apply _ g () offs offs_nodup, offs_toFinset]

/-- A transfer of device `a` is owed to the arriving cell of its offset on the device so many places after; -/
theorem owedRecv_at (a c : Dev nD) (d : Fin 32) (k : Kind) :
    owedRecv a d (cell c k) () = if some (true, d) = k then (if a = prv c d then N else 0) else 0 := by
  unfold owedRecv; rw [tallyAt_apply]
  by_cases hk : some (true, d) = k
  · subst hk
    rw [if_pos rfl]
    by_cases h : a = prv c d
    · subst h; rw [nbr_prv, if_pos ⟨rfl, rfl⟩, if_pos rfl]
    · rw [if_neg (fun h' => h (by rw [(cell_eq_iff.mp h'.1).1, prv_nbr])), if_neg h]
  · rw [if_neg hk, if_neg (fun h' => hk (cell_eq_iff.mp h'.1).2.symm)]

/-- a signal to the barrier cell there. -/
theorem owedBar_at (a c : Dev nD) (d : Fin 32) (k : Kind) :
    owedBar a d (cell c k) () = if none = k then (if a = prv c d then 1 else 0) else 0 := by
  unfold owedBar; rw [tallyAt_apply]
  by_cases hk : none = k
  · subst hk
    rw [if_pos rfl]
    by_cases h : a = prv c d
    · subst h; rw [nbr_prv, if_pos ⟨rfl, rfl⟩, if_pos rfl]
    · rw [if_neg (fun h' => h (by rw [(cell_eq_iff.mp h'.1).1, prv_nbr])), if_neg h]
  · rw [if_neg hk, if_neg (fun h' => hk (cell_eq_iff.mp h'.1).2.symm)]

/-- Over all devices, what is owed to a cell: thirty-one units to a barrier's, a slot's credit to an arriving transfer's. -/
theorem owed_sum_bar (c : Dev nD) : ∑ a : Dev nD, O₀ a (barCell c) () = 31 := by
  simp only [owed_at, owedRecv_at, owedBar_at, reduceCtorEq, if_false, if_true, Finset.sum_const_zero, Nat.zero_add]
  rw [Finset.sum_comm]
  simp only [Finset.sum_ite_eq', Finset.mem_univ, if_true]
  decide

/-- to an arriving transfer's cell, the credit of a slot. -/
theorem owed_sum_recv (c : Dev nD) (e : Fin 32) (he : e ≠ 0) : ∑ a : Dev nD, O₀ a (recvCell c e) () = N := by
  simp only [owed_at, owedRecv_at, owedBar_at, reduceCtorEq, if_false, Finset.sum_const_zero, Nat.add_zero, Option.some.injEq, Prod.mk.injEq, true_and]
  rw [Finset.sum_comm]
  have h : ∀ d : Fin 32, (∑ a : Dev nD, if d = e then (if a = prv c d then N else 0) else 0) = if d = e then N else 0 := fun d => by
    by_cases hd : d = e
    · simp only [hd, if_true, Finset.sum_ite_eq', Finset.mem_univ]
    · simp only [hd, if_false, Finset.sum_const_zero]
  rw [Finset.sum_congr rfl fun d _ => h d, Finset.sum_ite_eq', if_pos (Finset.mem_erase.mpr ⟨he, Finset.mem_univ _⟩)]

/-- The launch's credit at a cell is what all devices owe it. -/
theorem launch_at (g : GSem nD τ sig) (n : ℕ) (h : ∑ a : Dev nD, O₀ a g () = n) (hg : ∃ c : Dev nD, g.1 = (c : Thread nD τ)) :
    tallyOn g (launchCredit (Pipeline.owing O₀) 0 g) = (tallyAt g () n : CellTallies nD τ sig Unit) := by
  obtain ⟨c, hc⟩ := hg
  obtain ⟨g1, g2⟩ := g
  subst hc
  unfold tallyAt; refine congrArg _ (Finsupp.ext fun u => ?_); cases u
  rw [Pipeline.launchCredit_owing, Finsupp.single_eq_same, h]

omit [FloatOps F] in
/-- Each device may wait for 31 units at its barrier and for every slot's arrival. -/
theorem creds (c : Dev nD) :
    (Pipeline.launchCred O₀ c : sProp 𝕄) ⊢ iprop(cred (tallyAt (barCell c) () 31) ∗ sepL (fun d => cred (tallyAt (recvCell c d) () N)) offs) := by
  have hm : (Finset.univ.erase (0 : Fin 32)).map ⟨fun d => csem (some (true, d)), fun d e h => by have := csem_injective h; cases this; rfl⟩
      ⊆ Finset.univ.erase (SemLoc.reg barS : SemLoc sig) := fun s hs => by
    obtain ⟨d, -, rfl⟩ := Finset.mem_map.mp hs
    exact Finset.mem_erase.mpr ⟨osem_ne_bar (true, d), Finset.mem_univ _⟩
  unfold Pipeline.launchCred
  rw [bigSep_univ_at _ (SemLoc.reg barS), show tallyOn ((c : Thread nD τ), SemLoc.reg barS) (launchCredit (Pipeline.owing O₀) 0 ((c : Thread nD τ), SemLoc.reg barS)) = tallyAt (barCell c) () 31 from
    launch_at (barCell c) 31 (owed_sum_bar c) ⟨c, rfl⟩]
  refine sep_mono_right ((bigSep_subset hm).trans ?_)
  rw [bigSep_map, sepL_offs]
  exact Entails.of_eq (bigSep_congr fun d hd =>
    congrArg cred (launch_at (recvCell c d) N (owed_sum_recv c d (Finset.mem_erase.mp hd).1) ⟨c, rfl⟩))

/-! ## The side conditions of the run -/

/-- What the launch deals is what a device starts with; -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

/-- with the landing buffer it is what the body starts from; -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, ⟨%f, Hr⟩⟩
  isplitl [Hs]; · iexact Hs
  iexists f; iexact Hr

/-- and what the body ends with is every semaphore at zero and the buffer given back. -/
theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ m c from rfl, scopedRest0_eq, ownSems0_eq, unscopedSems0_eq]
  unfold Φ₁
  iintro ⟨Hr, HzB, HzS, HzV⟩
  isplitl [HzB]; · iexact HzB
  isplitl [HzS HzV]
  · isplitl [HzS] <;> iassumption
  iexists (gathered (tops m) c); iexact Hr

/-- A staging semaphore is none of the exchange's. -/
theorem stage_level (w : Fin cfg0.W) (s : Fin (spec0 w).nbuf) : lvK (kindOf (SemLoc.dma ((spec0 w).sem s))) = 0 := by
  have h : kindOf (SemLoc.dma ((spec0 w).sem s)) = none := by
    cases hk : kindOf (SemLoc.dma ((spec0 w).sem s)) with
    | none => rfl
    | some k =>
      have := kindOf_some hk
      cases k with
      | none => cases this
      | some k => exact absurd this.symm (ownSemFacts.disj k w s)
  rw [h]; rfl

/-- The staging's waits are allowed: they stand below all that is owed. -/
theorem waits (c : Dev nD) : (levAts L lv : sProp 𝕄) ⊢ Pipeline.cellsWaits cfgs (dats m) () 0 c :=
  Pipeline.cellsWaits_intro cfgs (dats m) () 0 c fun w s t =>
    mayWait_stage c _ (stage_level w s) _ (by
      rcases t with ⟨_ | _, ht⟩
      · exact Or.inl rfl
      · exact Or.inr rfl)

/-! ## The run -/

/-- What an array of the call holds after the run. -/
def finalA (c : Dev nD) (w : Fin cfg0.W) : Buf (Elt F) ((cfg0.win w).arr.view.loc (c : Thread nD τ)) := (dats m 0 c).arrAt w cfg0.N

/-- Every array of the call ends at its final contents. -/
def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- On the mesh of thirty-two devices, for any float values and from any memory with every semaphore at zero: every fair
    execution ends, each array of the call at its final contents and every semaphore at zero again. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ex m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- A device's block is as it was. -/
theorem finalA_x (c : Dev nD) : finalA m c (0 : Fin 2) = m (win0_0.arr.view.loc (c : Thread nD τ)) :=
  (dats (F := F) m 0 c).arrAt_in (0 : Fin 2) rfl _

end Cert.Exchange

end
-- ==== Proof.Frames.lean ====
/-
What the run of the kernel says of the two programs: the program read at extended reals is the one the loops were
proved of, and the program as printed is the same text read at bits.
-/
module

public import proofs.«01_k».proof.Proof.Launch
public import proofs.«01_k».proof.Proof.Gen.Kernel
public import proofs.«01_k».proof.Defs

@[expose] public section

noncomputable section

namespace Cert.Exchange

open Idealize.ShloMosaic Idealize.ShloMosaic.TcCoe
open Idealize.SL Idealize.SL.Sem

section
variable {F : FTy → Type} [FloatOps F]

set_option maxRecDepth 65536 in
/-- The bodies of the two programs' calls are one table: the bodies are the same text. -/
theorem bodies_same : Cert.Kernel.defs₀ (F := F) = Cert.KernelIdeal.defs₀ (F := F) := by
  unfold Cert.Kernel.defs₀ Cert.KernelIdeal.defs₀
  congr 1
  funext i x
  rcases i with ⟨_ | _, h⟩
  · rfl
  · exact absurd h (Nat.not_lt.2 (Nat.le_add_left _ _))

set_option maxRecDepth 65536 in
/-- With the staging's, the whole tables are one. -/
theorem tables_same : Cert.Kernel.defs (F := F) = Cert.KernelIdeal.defs (F := F) := by
  unfold Cert.Kernel.defs Cert.KernelIdeal.defs
  exact congrArg (Pipeline.defs (Cert.KernelIdeal.pcfgs (F := F))) bodies_same
end

/-- The kernel at extended reals ends, its argument as it was and every semaphore at zero. -/
theorem frame_ideal : Cert.quiescent_KernelIdeal := by
  intro m ρ _
  exact (θ_run _ _ _).mono (fun _ h => ⟨fun c => (h.1 c (0 : Fin 2)).trans (finalA_x m c), h.2⟩) (run_main (F := Ideal) m ρ)

set_option maxRecDepth 65536 in
/-- The kernel as printed ends, its argument as it was and every semaphore at zero. -/
theorem frame_bits : Cert.quiescent_Kernel := by
  intro m ρ _
  rw [tables_same]
  exact (θ_run _ _ _).mono (fun _ h => ⟨fun c => (h.1 c (0 : Fin 2)).trans (finalA_x (F := Bits) m c), h.2⟩) (run_main (F := Bits) m ρ)

section
open Cert.KernelIdeal Cert.KernelIdeal.Gen
variable {F : FTy → Type} [FloatOps F]
variable (m : (ℓ : Loc nD τ sig) → Buf (Elt F) ℓ) (ρ : Dev nD → PrngReg)

/-- The result array after the run, read through its one block: what the body stored. -/
theorem result_read (c : Dev nD) : (win0_1.blk (0 : Fin 1)).view.read (Elt F) (finalA m c (1 : Fin 2)) = outAt m c := by
  unfold finalA
  rw [show cfg0.N = ((0 : Fin 1) : Fin cfg0.N).val + 1 from rfl, (dats m 0 c).arrAt_succ (1 : Fin 2) (0 : Fin 1)]
  rw [show (cfg0.win (1 : Fin 2)).flush (0 : Fin 1) = true from by decide, if_pos rfl]
  exact View.read_write_univ _ _

/-- The array after the run is what the body stored: the block is the whole array. -/
theorem result_at (c : Dev nD) : finalA m c (1 : Fin 2) = outAt m c := by
  have hz : (fun a => (win0_1.index (0 : Fin 1)) a * main_v1.ty.shape.size a) = fun _ => 0 :=
    funext fun a => by fin_cases a <;> decide
  have h := result_read m c
  rw [show (win0_1.blk (0 : Fin 1)).view.read (Elt F) (finalA m c (1 : Fin 2)) = finalA m c (1 : Fin 2) from
    Memref.read_access_unit_zero (Elt F) main_v1 hz (fun a => by fin_cases a <;> decide) _] at h
  exact h

/-- The block staged on a device is its argument. -/
theorem staged_at (c : Dev nD) : xstg m c = m ((c : Thread nD τ).loc main_arg0) := by
  have hz : (fun a => (win0_0.index (0 : Fin 1)) a * main_arg0.ty.shape.size a) = fun _ => 0 :=
    funext fun a => by fin_cases a <;> decide
  exact Memref.read_access_unit_zero (Elt F) main_arg0 hz (fun a => by fin_cases a <;> decide) _
end

end Cert.Exchange

end
-- ==== Proof.Best.lean ====
/-
The greatest different values of a set of extended reals, one after another: the greatest, the greatest below it, the
greatest below that, and so on, minus infinity once there is no more. Three ways of reaching them are shown to agree:
striking out the greatest again and again; taking the first of each part of a set and reducing these; and reading a
list that falls strictly.
-/
module

public import Mathlib.Data.EReal.Basic
public import Mathlib.Data.Set.Finite.Lattice
public import Mathlib.Order.CompleteLattice.Lemmas
public import Mathlib.Order.ConditionallyCompleteLattice.Finset
public import Idealize.ShloMosaic.Lib.SortFacts

@[expose] public section

noncomputable section

namespace Cert.Best

/-- The part of a set still to be looked at after `k` of its greatest values have been taken. -/
def rest (S : Set EReal) : ℕ → Set EReal
  | 0 => S
  | k + 1 => {x ∈ S | x < sSup (rest S k)}

/-- The greatest of them, in order from 0: each the greatest of what is left. -/
def best (S : Set EReal) (k : ℕ) : EReal := sSup (rest S k)

/-- After one more is taken, what is left are the elements below it. -/
theorem rest_succ (S : Set EReal) (k : ℕ) : rest S (k + 1) = {x ∈ S | x < best S k} := rfl

/-- The next is the greatest of the elements below the one before. -/
theorem best_succ (S : Set EReal) (k : ℕ) : best S (k + 1) = sSup {x ∈ S | x < best S k} := rfl

/-- What is left is a part of the set. -/
theorem rest_sub (S : Set EReal) (k : ℕ) : rest S k ⊆ S := by
  cases k with
  | zero => exact fun _ h => h
  | succ k => exact fun _ h => h.1

/-- Nothing that is left is above the next to be taken. -/
theorem le_best {S : Set EReal} {k : ℕ} {x : EReal} (hx : x ∈ rest S k) : x ≤ best S k := le_sSup hx

/-- They never rise. -/
theorem best_le (S : Set EReal) (k : ℕ) : best S (k + 1) ≤ best S k := sSup_le fun _ h => h.2.le

/-- Of a finite set each greatest value is one of its elements, and one still left, unless there is none left. -/
theorem best_mem {S : Set EReal} (hS : S.Finite) (k : ℕ) : best S k ∈ rest S k ∨ best S k = ⊥ := by
  rcases (rest S k).eq_empty_or_nonempty with h | h
  · exact Or.inr (by rw [best, h, sSup_empty])
  · exact Or.inl (h.csSup_mem (hS.subset (rest_sub S k)))

/-- Of a finite set each is an element, or minus infinity when none is left. -/
theorem best_mem' {S : Set EReal} (hS : S.Finite) (k : ℕ) : best S k ∈ S ∨ best S k = ⊥ :=
  (best_mem hS k).imp (fun h => rest_sub S k h) id

/-- They fall strictly, until minus infinity. -/
theorem best_lt {S : Set EReal} (hS : S.Finite) (k : ℕ) : best S (k + 1) < best S k ∨ best S (k + 1) = ⊥ :=
  (best_mem hS (k + 1)).imp (fun h => h.2) id

/-- An element is one of the first `k` or still left after them. -/
theorem mem_or_rest {S : Set EReal} {x : EReal} (hx : x ∈ S) (k : ℕ) : (∃ j < k, x = best S j) ∨ x ∈ rest S k := by
  induction k with
  | zero => exact Or.inr hx
  | succ k ih =>
    rcases ih with ⟨j, hj, e⟩ | h
    · exact Or.inl ⟨j, hj.trans k.lt_succ_self, e⟩
    · rcases (le_best h).lt_or_eq with hl | he
      · exact Or.inr ⟨hx, hl⟩
      · exact Or.inl ⟨k, k.lt_succ_self, he⟩

/-- Those of a finite part are no greater than those of the whole, place by place. -/
theorem best_mono {A S : Set EReal} (hA : A.Finite) (hAS : A ⊆ S) (k : ℕ) : best A k ≤ best S k := by
  induction k with
  | zero => exact sSup_le_sSup hAS
  | succ k ih =>
    rcases best_mem hA (k + 1) with h | h
    · exact le_best (S := S) (k := k + 1) ⟨hAS h.1, h.2.trans_le ih⟩
    · rw [h]; exact bot_le

/-- Minus infinity counts for nothing. -/
theorem best_congr {S T : Set EReal} (hST : ∀ x, x ≠ ⊥ → (x ∈ S ↔ x ∈ T)) (k : ℕ) : best S k = best T k := by
  have key : ∀ A B : Set EReal, (∀ x, x ≠ ⊥ → (x ∈ A ↔ x ∈ B)) → sSup A ≤ sSup B := fun A B h =>
    sSup_le fun x hx => by
      by_cases hb : x = ⊥
      · rw [hb]; exact bot_le
      · exact le_sSup ((h x hb).mp hx)
  have both : ∀ A B : Set EReal, (∀ x, x ≠ ⊥ → (x ∈ A ↔ x ∈ B)) → sSup A = sSup B := fun A B h =>
    le_antisymm (key A B h) (key B A fun x hx => (h x hx).symm)
  induction k with
  | zero => exact both S T hST
  | succ k ih =>
    rw [best_succ, best_succ, ih]
    exact both _ _ fun x hx => and_congr_left fun _ => hST x hx

/-- The first `n` of each of several finite sets, put together, have the first `n` of the sets' union. -/
theorem best_union {ι : Type} (A : ι → Set EReal) (hA : ∀ i, (A i).Finite) (n : ℕ) (k : ℕ) (hk : k < n) :
    best {t | ∃ i, ∃ j < n, t = best (A i) j} k = best (⋃ i, A i) k := by
  induction k with
  | zero =>
    refine le_antisymm (sSup_le ?_) (sSup_le ?_)
    · rintro t ⟨i, j, -, rfl⟩
      rcases best_mem' (hA i) j with h | h
      · exact le_sSup (Set.mem_iUnion.mpr ⟨i, h⟩)
      · rw [h]; exact bot_le
    · intro x hx
      obtain ⟨i, hi⟩ := Set.mem_iUnion.mp hx
      exact (le_best (k := 0) hi).trans (le_sSup ⟨i, 0, hk, rfl⟩)
  | succ k ih =>
    rw [best_succ, best_succ, ih (k.lt_succ_self.trans hk)]
    refine le_antisymm (sSup_le ?_) (sSup_le ?_)
    · rintro t ⟨⟨i, j, -, rfl⟩, hlt⟩
      rcases best_mem' (hA i) j with h | h
      · exact le_sSup ⟨Set.mem_iUnion.mpr ⟨i, h⟩, hlt⟩
      · rw [h]; exact bot_le
    · rintro x ⟨hx, hlt⟩
      obtain ⟨i, hi⟩ := Set.mem_iUnion.mp hx
      rcases mem_or_rest hi (k + 1) with ⟨j, hj, rfl⟩ | h
      · exact le_sSup ⟨⟨i, j, hj.trans hk, rfl⟩, hlt⟩
      · rcases best_lt (hA i) k with hl | hb
        · refine (le_best h).trans (le_sSup ⟨⟨i, k + 1, hk, rfl⟩, hl.trans_le ?_⟩)
          exact best_mono (hA i) (Set.subset_iUnion A i) k
        · have := le_best h
          rw [hb] at this
          exact this.trans bot_le

/-- Striking out the greatest once: the array with every entry equal to `a` made minus infinity. -/
def strike {ι : Type} (v : ι → EReal) (a : EReal) : ι → EReal := fun i => if v i = a then ⊥ else v i

/-- The array after `k` rounds, each striking out the greatest that is left. -/
def struck {ι : Type} (v : ι → EReal) : ℕ → ι → EReal
  | 0 => v
  | k + 1 => strike (struck v k) (⨆ i, struck v k i)

/-- After one round or more what is left of the array is what lies below the value last taken, -/
theorem struck_succ {ι : Type} (v : ι → EReal) (k : ℕ) :
    (⨆ i, struck v k i) = best (Set.range v) k
      ∧ ∀ i, struck v (k + 1) i = if v i < best (Set.range v) k then v i else ⊥ := by
  have step : ∀ (u : ι → EReal), (∀ i, u i = v i ∨ (u i = ⊥ ∧ (⨆ i, u i) ≤ v i)) →
      ∀ i, strike u (⨆ i, u i) i = if v i < ⨆ i, u i then v i else ⊥ := by
    intro u hu i
    unfold strike
    rcases hu i with h | ⟨h, hle⟩
    · have hle : u i ≤ ⨆ i, u i := le_iSup u i
      rcases hle.lt_or_eq with hl | he
      · rw [if_neg hl.ne, if_pos (h ▸ hl), h]
      · rw [if_pos he, if_neg (by rw [← h]; exact he.ge.not_gt)]
    · rw [if_neg hle.not_gt, h]; split <;> rfl
  induction k with
  | zero =>
    have h0 : (⨆ i, struck v 0 i) = best (Set.range v) 0 := rfl
    exact ⟨h0, fun i => by rw [← h0]; exact step v (fun i => Or.inl rfl) i⟩
  | succ k ih =>
    have hs : (⨆ i, struck v (k + 1) i) = best (Set.range v) (k + 1) := by
      rw [best_succ]
      refine le_antisymm (iSup_le fun i => ?_) (sSup_le ?_)
      · rw [ih.2 i]
        split
        · next h => exact le_sSup ⟨⟨i, rfl⟩, h⟩
        · exact bot_le
      · rintro _ ⟨⟨i, rfl⟩, h⟩
        have := le_iSup (struck v (k + 1)) i
        rw [ih.2 i, if_pos h] at this
        exact this
    refine ⟨hs, fun i => ?_⟩
    rw [← hs]
    refine step (struck v (k + 1)) (fun i => ?_) i
    rw [ih.2 i]
    by_cases h : v i < best (Set.range v) k
    · exact Or.inl (if_pos h)
    · refine Or.inr ⟨if_neg h, ?_⟩
      rw [hs]
      exact (best_le _ k).trans (not_lt.mp h)

/-- so the greatest of each round is the greatest value of that place. -/
theorem struck_best {ι : Type} (v : ι → EReal) (k : ℕ) : (⨆ i, struck v k i) = best (Set.range v) k :=
  (struck_succ v k).1

/-- A list that never rises, and whose first `N` places fall strictly until minus infinity, has the greatest different
    values in these places. -/
theorem best_of_falling {n : ℕ} (w : Fin n → EReal) (hw : Antitone w) (N : ℕ)
    (hN : ∀ (j : ℕ) (h : j + 1 < n), j + 1 < N → w ⟨j + 1, h⟩ < w ⟨j, by omega⟩ ∨ w ⟨j + 1, h⟩ = ⊥)
    (j : ℕ) (h : j < n) (hj : j < N) : w ⟨j, h⟩ = best (Set.range w) j := by
  induction j with
  | zero =>
    refine le_antisymm (le_sSup ⟨_, rfl⟩) (sSup_le ?_)
    rintro _ ⟨i, rfl⟩
    exact hw (Fin.mk_le_of_le_val (Nat.zero_le _))
  | succ j ih =>
    have ih := ih (by omega) (by omega)
    rw [best_succ, ← ih]
    refine le_antisymm ?_ (sSup_le ?_)
    · rcases hN j h hj with hl | hb
      · exact le_sSup ⟨⟨_, rfl⟩, hl⟩
      · rw [hb]; exact bot_le
    · rintro _ ⟨⟨i, rfl⟩, hl⟩
      refine hw ?_
      by_contra hlt
      have hij : i ≤ (⟨j, by omega⟩ : Fin n) := by
        rw [Fin.le_def]; rw [Fin.le_def] at hlt; simp only at hlt ⊢; omega
      exact absurd (hw hij) hl.not_ge

/-- An arrangement of an array has the array's entries as a list, in another order. -/
theorem ofFn_perm {n : ℕ} (v : Fin n → EReal) (σ : Fin n → Fin n) (hσ : Function.Bijective σ) :
    (List.ofFn (v ∘ σ)).Perm (List.ofFn v) := by
  rw [List.ofFn_eq_map, List.ofFn_eq_map, ← List.map_map]
  refine List.Perm.map v ((List.perm_ext_iff_of_nodup ((List.nodup_finRange n).map hσ.1) (List.nodup_finRange n)).mpr fun p => ?_)
  simp only [List.mem_map, List.mem_finRange, true_and, iff_true]
  exact hσ.2 p

/-- Two arrangements of one array, neither of which rises, are one. -/
theorem falling_unique {n : ℕ} (v : Fin n → EReal) (σ τ : Fin n → Fin n) (hσ : Function.Bijective σ) (hτ : Function.Bijective τ)
    (h₁ : Antitone (v ∘ σ)) (h₂ : Antitone (v ∘ τ)) : v ∘ σ = v ∘ τ := by
  have sorted : ∀ f : Fin n → EReal, Antitone f → (List.ofFn f).Pairwise fun a b => b ≤ a := fun f hf =>
    List.pairwise_ofFn.mpr fun i j hij => hf hij.le
  exact List.ofFn_injective (List.Perm.eq_of_pairwise (fun a b _ _ h h' => le_antisymm h' h) (sorted _ h₁) (sorted _ h₂)
    ((ofFn_perm v σ hσ).trans (ofFn_perm v τ hτ).symm))

end Cert.Best

end
-- ==== Proof.Rounds.lean ====
/-
What the kernel computes on one device: eight rounds of "the greatest of each row, struck out" give the eight greatest
different values of the row, of its own block first, and then of the thirty-two slots.
-/
module

public import proofs.«01_k».proof.Proof.Loops
public import proofs.«01_k».proof.Proof.Best
public import Idealize.ShloMosaic.Lib.Pointwise
public import Idealize.ShloMosaic.PureOps.Ideal.Laws

@[expose] public section

noncomputable section

namespace Cert.Exchange

open Cert.KernelIdeal Cert.KernelIdeal.Gen Cert.Best
open Idealize.ShloMosaic

/-- The word the kernel strikes out with is minus infinity. -/
theorem neg_inf : (Scalar.ofBits .f32 0xFF800000#32 : Ideal .f32) = ⊥ := by
  show Ideal.ofBits .f32 0xFF800000#32 = ⊥
  simp [Ideal.ofBits, Ideal.ieee]

/-- A maximum over an index set, from minus infinity, is the least upper bound. -/
theorem fold_max {n : ℕ} (f : Fin n → EReal) : Finset.univ.fold max ⊥ f = ⨆ i, f i := by
  rw [← Finset.sup_univ_eq_iSup]; rfl

/-- One round over the rows of a block: the greatest of each row, in a column; -/
def rowMax (v : FVec Ideal S256x1024 .f32) : FVec Ideal S256x1 .f32 :=
  shapeCast S256x1 (multiReduction .maximumf [1] S256 v 0xFF800000#32 reduces_S256x1024_S256 (.inl rfl) rfl) shapeCasts_S256_S256x1
/-- the block with these struck out. -/
def rowStrike (v : FVec Ideal S256x1024 .f32) : FVec Ideal S256x1024 .f32 :=
  select (cmpf .oeq v (broadcastTo S256x1024 (rowMax v) broadcasts_S256x1_S256x1024)) (broadcast S256x1024 (Scalar.ofBits .f32 0xFF800000#32)) v

/-- the column holds the greatest of each row; -/
theorem rowMax_apply (v : FVec Ideal S256x1024 .f32) (r : Fin 256) (z : Fin 1) : rowMax v (ix2 r z) = ⨆ c : Fin 1024, v (ix2 r c) := by
  have h : rowMax v (ix2 r z) = Finset.univ.fold max (Scalar.ofBits .f32 0xFF800000#32 : Ideal .f32) fun c : Fin 1024 => v (ix2 r c) := by
    pointwise [rowMax]
  rw [h, neg_inf, fold_max]

/-- Choosing by whether two numbers are equal. -/
theorem select_eq (a b x y : EReal) : Scalar.select (FloatOps.cmpf (F := Ideal) (φ := .f32) .oeq a b) x y = if a = b then x else y := by
  show Scalar.select (BitVec.ofBool (decide (a = b))) x y = _
  by_cases h : a = b <;> simp [h, Scalar.select]

/-- striking out leaves minus infinity where an entry is its row's greatest, and the entry elsewhere. -/
theorem rowStrike_apply (v : FVec Ideal S256x1024 .f32) (r : Fin 256) (c : Fin 1024) :
    rowStrike v (ix2 r c) = strike (fun c : Fin 1024 => v (ix2 r c)) (⨆ c : Fin 1024, v (ix2 r c)) c := by
  have hb : broadcastTo S256x1024 (rowMax v) broadcasts_S256x1_S256x1024 (ix2 r c) = rowMax v (ix2 r 0) := by pointwise
  have h : rowStrike v (ix2 r c) = Scalar.select (FloatOps.cmpf (F := Ideal) (φ := .f32) .oeq (v (ix2 r c))
      (broadcastTo S256x1024 (rowMax v) broadcasts_S256x1_S256x1024 (ix2 r c))) (Scalar.ofBits .f32 0xFF800000#32 : Ideal .f32) (v (ix2 r c)) := rfl
  rw [h, hb, select_eq, rowMax_apply, neg_inf]; rfl

/-- The block after `k` rounds, row by row; -/
theorem rowStrike_iter (v : FVec Ideal S256x1024 .f32) (r : Fin 256) (k : ℕ) :
    (fun c : Fin 1024 => (rowStrike^[k] v) (ix2 r c)) = struck (fun c : Fin 1024 => v (ix2 r c)) k := by
  induction k with
  | zero => rfl
  | succ k ih =>
    funext c
    rw [Function.iterate_succ_apply', rowStrike_apply, ih]; rfl

/-- the greatest of the row after `k` rounds is its greatest different value of that place. -/
theorem rowMax_iter (v : FVec Ideal S256x1024 .f32) (r : Fin 256) (z : Fin 1) (k : ℕ) :
    rowMax (rowStrike^[k] v) (ix2 r z) = best (Set.range fun c : Fin 1024 => v (ix2 r c)) k := by
  rw [rowMax_apply, ← struck_best, ← rowStrike_iter]

/-- The same over the columns of the gathered slots: the greatest of each column, in a row; -/
def colMax (v : FVec Ideal S256x256 .f32) : FVec Ideal S1x256 .f32 :=
  shapeCast S1x256 (multiReduction .maximumf [0] S256 v 0xFF800000#32 reduces_S256x256_S256 (.inl rfl) rfl) shapeCasts_S256_S1x256
/-- the slots with these struck out. -/
def colStrike (v : FVec Ideal S256x256 .f32) : FVec Ideal S256x256 .f32 :=
  select (cmpf .oeq v (broadcastTo S256x256 (colMax v) broadcasts_S1x256_S256x256)) (broadcast S256x256 (Scalar.ofBits .f32 0xFF800000#32)) v

/-- the row holds the greatest of each column; -/
theorem colMax_apply (v : FVec Ideal S256x256 .f32) (z : Fin 1) (r : Fin 256) : colMax v (ix2 z r) = ⨆ c : Fin 256, v (ix2 c r) := by
  have h : colMax v (ix2 z r) = Finset.univ.fold max (Scalar.ofBits .f32 0xFF800000#32 : Ideal .f32) fun c : Fin 256 => v (ix2 c r) := by
    pointwise [colMax]
  rw [h, neg_inf, fold_max]

/-- striking out leaves minus infinity where an entry is its column's greatest. -/
theorem colStrike_apply (v : FVec Ideal S256x256 .f32) (r c : Fin 256) :
    colStrike v (ix2 c r) = strike (fun c : Fin 256 => v (ix2 c r)) (⨆ c : Fin 256, v (ix2 c r)) c := by
  have hb : broadcastTo S256x256 (colMax v) broadcasts_S1x256_S256x256 (ix2 c r) = colMax v (ix2 0 r) := by pointwise
  have h : colStrike v (ix2 c r) = Scalar.select (FloatOps.cmpf (F := Ideal) (φ := .f32) .oeq (v (ix2 c r))
      (broadcastTo S256x256 (colMax v) broadcasts_S1x256_S256x256 (ix2 c r))) (Scalar.ofBits .f32 0xFF800000#32 : Ideal .f32) (v (ix2 c r)) := rfl
  rw [h, hb, select_eq, colMax_apply, neg_inf]; rfl

/-- The greatest of a column after `k` rounds is its greatest different value of that place. -/
theorem colMax_iter (v : FVec Ideal S256x256 .f32) (r : Fin 256) (z : Fin 1) (k : ℕ) :
    colMax (colStrike^[k] v) (ix2 z r) = best (Set.range fun c : Fin 256 => v (ix2 c r)) k := by
  have it : ∀ k, (fun c : Fin 256 => (colStrike^[k] v) (ix2 c r)) = struck (fun c : Fin 256 => v (ix2 c r)) k := by
    intro k
    induction k with
    | zero => rfl
    | succ k ih => funext c; rw [Function.iterate_succ_apply', colStrike_apply, ih]; rfl
  rw [colMax_apply, ← struck_best, ← it]

/-- One round more is a round after the others. -/
theorem iter_step {α : Type} (f : α → α) (k l : ℕ) (h : l = k + 1) (v : α) : f^[l] v = f (f^[k] v) := by
  rw [h, Function.iterate_succ_apply']

/-- Two rounds that follow the first six in the block the kernel carries, and what it stores in slot 0; -/
theorem pay14_rounds (a b c d : FVec Ideal S256x1 .f32) (v : FVec Ideal S256x1024 .f32) :
    k0_pay14 a b c d v (rowMax v) (cmpf .oeq v (broadcastTo S256x1024 (rowMax v) broadcasts_S256x1_S256x1024)) (k0_pay13 (F := Ideal))
      = shapeCast S1x8x256 (transpose S8x256 [1, 0] (concatenate S256x8 1
        [⟨S256x1, a⟩, ⟨S256x1, b⟩, ⟨S256x1, c⟩, ⟨S256x1, d⟩, ⟨S256x1, rowMax v⟩, ⟨S256x1, rowMax (rowStrike v)⟩,
          ⟨S256x1, rowMax (rowStrike (rowStrike v))⟩, ⟨S256x1, rowMax (rowStrike (rowStrike (rowStrike v)))⟩]
        concatenates_S256x1_S256x1_S256x1_S256x1_S256x1_S256x1_S256x1_S256x1_S256x8_d1) transposes_S256x8_p1_0_S8x256) shapeCasts_S8x256_S1x8x256 := rfl

/-- What the kernel stores in slot 0, in these words; -/
theorem top8_rounds (x : FVec Ideal S256x1024 .f32) :
    top8 (F := Ideal) x = shapeCast S1x8x256 (transpose S8x256 [1, 0] (concatenate S256x8 1
      [⟨S256x1, rowMax (rowStrike^[0] (k0_pay2 x))⟩,
        ⟨S256x1, rowMax (rowStrike^[1] (k0_pay2 x))⟩,
        ⟨S256x1, rowMax (rowStrike^[2] (k0_pay2 x))⟩,
        ⟨S256x1, rowMax (rowStrike^[3] (k0_pay2 x))⟩,
        ⟨S256x1, rowMax (rowStrike^[4] (k0_pay2 x))⟩,
        ⟨S256x1, rowMax (rowStrike^[5] (k0_pay2 x))⟩,
        ⟨S256x1, rowMax (rowStrike^[6] (k0_pay2 x))⟩,
        ⟨S256x1, rowMax (rowStrike^[7] (k0_pay2 x))⟩]
      concatenates_S256x1_S256x1_S256x1_S256x1_S256x1_S256x1_S256x1_S256x1_S256x8_d1) transposes_S256x8_p1_0_S8x256) shapeCasts_S8x256_S1x8x256 := by
  have h4 : k0_pay4 x = rowStrike (k0_pay2 x) := rfl
  have h6 : k0_pay6 x = rowStrike (k0_pay4 x) := rfl
  have h8 : k0_pay8 x = rowStrike (k0_pay6 x) := rfl
  have h10 : k0_pay10 x = rowStrike (k0_pay8 x) := rfl
  have m3 : k0_pay3 x = rowMax (k0_pay2 x) := rfl
  have m5 : k0_pay5 x = rowMax (k0_pay4 x) := rfl
  have m7 : k0_pay7 x = rowMax (k0_pay6 x) := rfl
  have m9 : k0_pay9 x = rowMax (k0_pay8 x) := rfl
  have m11 : k0_pay11 x = rowMax (k0_pay10 x) := rfl
  have m12 : k0_pay12 (F := Ideal) x = cmpf .oeq (k0_pay10 (F := Ideal) x) (broadcastTo S256x1024 (k0_pay11 (F := Ideal) x) broadcasts_S256x1_S256x1024) := rfl
  unfold top8
  rw [m12, m11, pay14_rounds, m3, m5, m7, m9, h10, h8, h6, h4]
  rw [iter_step rowStrike 6 7 rfl, iter_step rowStrike 5 6 rfl, iter_step rowStrike 4 5 rfl, iter_step rowStrike 3 4 rfl,
    iter_step rowStrike 2 3 rfl, iter_step rowStrike 1 2 rfl, iter_step rowStrike 0 1 rfl, Function.iterate_zero, id_eq]

/-- and what it stores as its result. -/
theorem merge8_rounds (g : FVec Ideal S32x8x256 .f32) :
    merge8 (F := Ideal) g = transpose S256x8 [1, 0] (concatenate S8x256 0
      [⟨S1x256, colMax (colStrike^[0] (k0_pay15 g))⟩,
        ⟨S1x256, colMax (colStrike^[1] (k0_pay15 g))⟩,
        ⟨S1x256, colMax (colStrike^[2] (k0_pay15 g))⟩,
        ⟨S1x256, colMax (colStrike^[3] (k0_pay15 g))⟩,
        ⟨S1x256, colMax (colStrike^[4] (k0_pay15 g))⟩,
        ⟨S1x256, colMax (colStrike^[5] (k0_pay15 g))⟩,
        ⟨S1x256, colMax (colStrike^[6] (k0_pay15 g))⟩,
        ⟨S1x256, colMax (colStrike^[7] (k0_pay15 g))⟩]
      concatenates_S1x256_S1x256_S1x256_S1x256_S1x256_S1x256_S1x256_S1x256_S8x256_d0) transposes_S8x256_p1_0_S256x8 := by
  have h17 : k0_pay17 g = colStrike (k0_pay15 g) := rfl
  have h19 : k0_pay19 g = colStrike (k0_pay17 g) := rfl
  have m16 : k0_pay16 g = colMax (k0_pay15 g) := rfl
  have m18 : k0_pay18 g = colMax (k0_pay17 g) := rfl
  have m20 : k0_pay20 g = colMax (k0_pay19 g) := rfl
  have h23 : ∀ v : FVec Ideal S256x256 .f32,
      k0_pay23 v (cmpf .oeq v (broadcastTo S256x256 (colMax v) broadcasts_S1x256_S256x256)) (k0_pay22 (F := Ideal)) = colStrike v := fun _ => rfl
  have c21 : k0_pay21 (F := Ideal) g = cmpf .oeq (k0_pay19 (F := Ideal) g) (broadcastTo S256x256 (k0_pay20 (F := Ideal) g) broadcasts_S1x256_S256x256) := rfl
  have m24 : ∀ v i j, k0_pay24 (F := Ideal) v i j = colMax (k0_pay23 v i j) := fun _ _ _ => rfl
  have h25 : ∀ v i j, k0_pay25 (F := Ideal) v i j = colStrike (k0_pay23 v i j) := fun _ _ _ => rfl
  have m26 : ∀ v i j, k0_pay26 (F := Ideal) v i j = colMax (k0_pay25 v i j) := fun _ _ _ => rfl
  have h27 : ∀ v i j, k0_pay27 (F := Ideal) v i j = colStrike (k0_pay25 v i j) := fun _ _ _ => rfl
  have m28 : ∀ v i j, k0_pay28 (F := Ideal) v i j = colMax (k0_pay27 v i j) := fun _ _ _ => rfl
  have c29 : ∀ v i j, k0_pay29 (F := Ideal) v i j
      = cmpf .oeq (k0_pay27 v i j) (broadcastTo S256x256 (k0_pay28 v i j) broadcasts_S1x256_S256x256) := fun _ _ _ => rfl
  have last : ∀ (a b c d e : FVec Ideal S1x256 .f32) (v : FVec Ideal S256x256 .f32),
      k0_pay1 a b c d e v (colMax v) (cmpf .oeq v (broadcastTo S256x256 (colMax v) broadcasts_S1x256_S256x256))
        = transpose S256x8 [1, 0] (concatenate S8x256 0
          [⟨S1x256, a⟩, ⟨S1x256, b⟩, ⟨S1x256, c⟩, ⟨S1x256, d⟩, ⟨S1x256, e⟩, ⟨S1x256, colMax v⟩, ⟨S1x256, colMax (colStrike v)⟩,
            ⟨S1x256, colMax (colStrike (colStrike v))⟩]
          concatenates_S1x256_S1x256_S1x256_S1x256_S1x256_S1x256_S1x256_S1x256_S8x256_d0) transposes_S8x256_p1_0_S256x8 := fun _ _ _ _ _ _ => rfl
  unfold merge8
  simp only []
  rw [c29, m28, last, m24, m26, h27, h25, c21, m20, h23, m16, m18, h19, h17]
  rw [iter_step colStrike 6 7 rfl, iter_step colStrike 5 6 rfl, iter_step colStrike 4 5 rfl, iter_step colStrike 3 4 rfl,
    iter_step colStrike 2 3 rfl, iter_step colStrike 1 2 rfl, iter_step colStrike 0 1 rfl, Function.iterate_zero, id_eq]

/-- Slot 0 holds the eight greatest different values of each row of the block; -/
theorem top8_apply (x : FVec Ideal S256x1024 .f32) (z : Fin 1) (k : Fin 8) (r : Fin 256) :
    top8 (F := Ideal) x (ix3 z k r) = best (Set.range fun c : Fin 1024 => x (ix2 r c)) k := by
  have hx : k0_pay2 x = x := by unfold k0_pay2; exact shapeCast_self _ _
  rw [top8_rounds, hx]
  fin_cases k <;> pointwise [rowMax_iter]

/-- the result the eight greatest different values of each column of the slots put one below the other. -/
theorem merge8_apply (g : FVec Ideal S32x8x256 .f32) (r : Fin 256) (k : Fin 8) :
    merge8 (F := Ideal) g (ix2 r k) = best {t | ∃ (d : Fin 32) (j : Fin 8), t = g (ix3 d j r)} k := by
  have hs : (Set.range fun c : Fin 256 => k0_pay15 g (ix2 c r)) = {t | ∃ (d : Fin 32) (j : Fin 8), t = g (ix3 d j r)} := by
    ext t
    constructor
    · rintro ⟨c, rfl⟩
      refine ⟨⟨c / 8, by omega⟩, ⟨c % 8, by omega⟩, ?_⟩
      pointwise [k0_pay15]
    · rintro ⟨d, j, rfl⟩
      refine ⟨⟨8 * d + j, by omega⟩, ?_⟩
      pointwise [k0_pay15]
  rw [merge8_rounds, ← hs]
  fin_cases k <;> pointwise [colMax_iter]

end Cert.Exchange

end
-- ==== Proof.Result.lean ====
/-
What the kernel leaves on every device: of each row of the whole array, of which each device holds a thirty-second of
the columns, the eight greatest different values.
-/
module

public import proofs.«01_k».proof.Proof.Frames
public import proofs.«01_k».proof.Proof.Rounds
public import Idealize.ShloMosaic.Lib.LayoutAt

@[expose] public section

noncomputable section

namespace Cert.Exchange

open Cert.KernelIdeal Cert.KernelIdeal.Gen Cert.Best
open Idealize.ShloMosaic Idealize.ShloMosaic.TcCoe

variable (m : (ℓ : Loc nD τ sig) → Buf (Elt Ideal) ℓ)

/-- The eight of each row of a block are those the device stores, -/
theorem tops_apply (c : Dev nD) (z : Fin 1) (k : Fin 8) (r : Fin 256) :
    tops m c (ix3 z k r) = best (Set.range fun q : Fin 1024 => xstg m c (ix2 r q)) k := top8_apply _ z k r

/-- so the eight of the thirty-two slots are those of the blocks' rows put together. -/
theorem outAt_apply (c : Dev nD) (r : Fin 256) (k : Fin 8) :
    outAt m c (ix2 r k) = best (⋃ d : Dev nD, Set.range fun q : Fin 1024 => xstg m d (ix2 r q)) k := by
  unfold outAt
  rw [merge8_apply, ← best_union (fun d : Dev nD => Set.range fun q : Fin 1024 => xstg m d (ix2 r q)) (fun _ => Set.finite_range _) 8 k k.isLt]
  congr 1
  ext t
  constructor
  · rintro ⟨d, j, rfl⟩
    exact ⟨prv c d, j, j.isLt, tops_apply m (prv c d) 0 j r⟩
  · rintro ⟨e, j, hj, rfl⟩
    refine ⟨(show Fin 32 from c) - e, ⟨j, hj⟩, ?_⟩
    have he : prv c ((show Fin 32 from c) - e) = e := by revert c e; decide +kernel
    exact (tops_apply m e 0 ⟨j, hj⟩ r).symm.trans (congrArg (fun d => tops m d (ix3 (0 : Fin 1) ⟨j, hj⟩ r)) he.symm)

/-- Where each device's block is its part of the columns of one array, the result on every device is the eight greatest
    different values of each row of that array. -/
theorem outAt_whole (X : (⟨2, ![256, 32768]⟩ : Shape).Idx → EReal)
    (hX : ∀ c : Dev nD, m ((c : Thread nD τ).loc main_arg0) = Layout.block ⟨2, ![256, 1024]⟩ ⟨2, ![256, 32768]⟩ 1 32 c X)
    (c : Dev nD) (r : Fin 256) (k : Fin 8) :
    outAt m c (ix2 r k) = best (Set.range fun q : Fin 32768 => X (ix2 r q)) k := by
  have hx : ∀ (d : Dev nD) (q : Fin 1024), xstg m d (ix2 r q) = X (ix2 r ⟨d.val * 1024 + q.val, by have := d.isLt; have := q.isLt; change d.val < 32 at *; omega⟩) := by
    intro d q
    rw [staged_at, hX]
    shard_ext
  rw [outAt_apply]
  congr 1
  ext t
  simp only [Set.mem_iUnion, Set.mem_range, hx]
  constructor
  · rintro ⟨d, q, rfl⟩
    exact ⟨_, rfl⟩
  · rintro ⟨q, rfl⟩
    refine ⟨(⟨q.val / 1024, by have := q.isLt; omega⟩ : Fin 32), ⟨q.val % 1024, Nat.mod_lt _ (by decide)⟩, ?_⟩
    congr 2
    exact Fin.ext (by show q.val / 1024 * 1024 + q.val % 1024 = q.val; omega)

end Cert.Exchange

end
-- ==== Proof.Sorted.lean ====
/-
Sorting a row of extended reals: the sorts of the programs give a rearrangement of each row that never falls, and its
use: the first appearance of each value of a falling row, sorted again, gives the greatest different values in order.
-/
module

public import proofs.«01_k».proof.Proof.Best
public import Idealize.ShloMosaic.PureOps
public import Idealize.ShloMosaic.PureOps.Ideal
public import Idealize.ShloMosaic.Lib.Pointwise

@[expose] public section

noncomputable section

namespace Cert.Best

open Idealize.ShloMosaic

/-- A position moved along the second axis. -/
theorem along_second {A B : ℕ} (r : Fin A) (j k : Fin B) :
    Shape.Idx.along (s := ⟨2, ![A, B]⟩) (ix2 r j) ⟨1, Nat.one_lt_two⟩ k = ix2 r k := by
  funext a
  fin_cases a
  · exact Function.update_of_ne (show (⟨0, by decide⟩ : Fin 2) ≠ ⟨1, by decide⟩ from fun h => Nat.zero_ne_one (congrArg Fin.val h)) _ _
  · exact Function.update_self _ _ _

/-- The rearrangement a sort by a key makes: every position comes once, and the keys never fall. -/
theorem sorted_by {n : ℕ} {α : Type} (cmp : α → α → BitVec 1) (key : α → EReal) (hcmp : ∀ a b, cmp a b = 1#1 ↔ key a < key b) (f : Fin n → α) :
    Function.Bijective (sortedFrom fun k k' => cmp (f k) (f k') == 1#1)
      ∧ Monotone fun j => key (f (sortedFrom (fun k k' => cmp (f k) (f k') == 1#1) j)) := by
  refine ⟨⟨sortedFrom_injective _, sortedFrom_surjective _⟩, fun i j hij => ?_⟩
  rcases hij.lt_or_eq with h | rfl
  · have hf : ∀ a b, (cmp (f a) (f b) == 1#1) = false ↔ key (f b) ≤ key (f a) := by
      intro a b
      rw [beq_eq_false_iff_ne, Ne, hcmp, not_lt]
    have := sortedFrom_noInversion (fun k k' => cmp (f k) (f k') == 1#1) (fun k k' => cmp (f k) (f k') == 1#1)
      (fun a b hab => (hf b a).mpr ((hcmp _ _).mp (beq_iff_eq.mp hab)).le) (fun _ _ h => h)
      (fun a b c hab hbc => (hf a c).mpr (((hf b c).mp hbc).trans ((hf a b).mp hab))) i j h
    exact (hf _ _).mp this
  · exact le_rfl

/-- One array sorted along its rows. -/
theorem sort_row {A B : ℕ} {α : Type} (cmp : α → α → BitVec 1) (key : α → EReal) (hcmp : ∀ a b, cmp a b = 1#1 ↔ key a < key b)
    (x : (⟨2, ![A, B]⟩ : Shape).Idx → α) (r : Fin A) :
    ∃ σ : Fin B → Fin B, Function.Bijective σ ∧ (Monotone fun j => key (x (ix2 r (σ j))))
      ∧ ∀ j, Host.sort ⟨2, ![A, B]⟩ 1 cmp x (ix2 r j) = x (ix2 r (σ j)) := by
  have h := sorted_by cmp key hcmp fun k : Fin B => x (ix2 r k)
  refine ⟨_, h.1, h.2, fun j => ?_⟩
  unfold Host.sort
  rw [dif_pos (show 1 < (⟨2, ![A, B]⟩ : Shape).rank from Nat.one_lt_two)]
  refine (congrArg x (along_second r j _)).trans (congrArg (fun R : Fin B → Fin B → Bool => x (ix2 r (sortedFrom R j))) ?_)
  exact funext₂ fun k k' => congrArg₂ (fun p q => cmp (x p) (x q) == 1#1) (along_second r j k) (along_second r j k')

/-- Two arrays sorted together along their rows, by the first: what the second becomes. -/
theorem sort2_row {A B : ℕ} {α β : Type} (cmp : α × β → α × β → BitVec 1) (key : α → EReal)
    (hcmp : ∀ a b, cmp a b = 1#1 ↔ key a.1 < key b.1)
    (x : (⟨2, ![A, B]⟩ : Shape).Idx → α) (y : (⟨2, ![A, B]⟩ : Shape).Idx → β) (r : Fin A) :
    ∃ σ : Fin B → Fin B, Function.Bijective σ ∧ (Monotone fun j => key (x (ix2 r (σ j))))
      ∧ ∀ j, (Host.sort2 ⟨2, ![A, B]⟩ 1 cmp x y).2 (ix2 r j) = y (ix2 r (σ j)) := by
  have h := sorted_by cmp (fun p => key p.1) hcmp fun k : Fin B => (x (ix2 r k), y (ix2 r k))
  refine ⟨_, h.1, h.2, fun j => ?_⟩
  unfold Host.sort2
  rw [dif_pos (show 1 < (⟨2, ![A, B]⟩ : Shape).rank from Nat.one_lt_two)]
  refine (congrArg y (along_second r j _)).trans (congrArg (fun R : Fin B → Fin B → Bool => y (ix2 r (sortedFrom R j))) ?_)
  exact funext₂ fun k k' => congrArg₂ (fun p q => cmp (x p, y p) (x q, y q) == 1#1) (along_second r j k) (along_second r j k')

/-- A number with its zero written as zero and itself where it is no number at all: at extended reals, itself. -/
theorem canon (a q : EReal) :
    Scalar.select (FloatOps.cmpf (F := Ideal) (φ := .f32) .une a a) q
      (Scalar.select (FloatOps.cmpf (F := Ideal) (φ := .f32) .oeq a (FloatOps.ofBits .f32 0x00000000#32)) (FloatOps.ofBits (F := Ideal) .f32 0x00000000#32) a) = a := by
  have h0 : (FloatOps.ofBits .f32 0x00000000#32 : Ideal .f32) = (0 : EReal) := by
    show Ideal.ofBits .f32 0x00000000#32 = 0
    simp [Ideal.ofBits, Ideal.ieee]
  have hu : FloatOps.cmpf (F := Ideal) (φ := .f32) .une a a = 0#1 := by
    show BitVec.ofBool (decide (a ≠ a)) = 0#1
    simp
  have he : FloatOps.cmpf (F := Ideal) (φ := .f32) .oeq a (0 : EReal) = BitVec.ofBool (decide (a = 0)) := rfl
  rw [h0, hu, he]
  by_cases h : a = 0 <;> simp [Scalar.select, h]

/-- Comparing two numbers: which is less. -/
theorem total_lt (a b : EReal) : FloatOps.cmpfTotal (F := Ideal) (φ := .f32) .lt a b = 1#1 ↔ a < b := by
  show BitVec.ofBool (decide (a < b)) = 1#1 ↔ a < b
  by_cases h : a < b <;> simp [h]

/-- A row negated, sorted and negated again is the row rearranged so that it never rises. -/
theorem falling_row {A B : ℕ} (cmp : EReal → EReal → BitVec 1) (hcmp : ∀ a b, cmp a b = 1#1 ↔ a < b)
    (x : FVec Ideal ⟨2, ![A, B]⟩ .f32) (r : Fin A) :
    ∃ σ : Fin B → Fin B, Function.Bijective σ ∧ Antitone ((fun j => x (ix2 r j)) ∘ σ)
      ∧ ∀ j, Host.negf (F := Ideal) (Host.sort ⟨2, ![A, B]⟩ 1 cmp (Host.negf x)) (ix2 r j) = x (ix2 r (σ j)) := by
  obtain ⟨σ, hb, hm, hs⟩ := sort_row cmp (fun a => a) hcmp (Host.negf x) r
  refine ⟨σ, hb, fun i j hij => EReal.neg_le_neg_iff.mp (hm hij), fun j => ?_⟩
  show -(Host.sort ⟨2, ![A, B]⟩ 1 cmp (Host.negf x) (ix2 r j)) = _
  rw [hs j]
  exact neg_neg (x (ix2 r (σ j)))

/-- A rearrangement has the same values. -/
theorem range_arranged {n : ℕ} {α : Type} (v : Fin n → α) (σ : Fin n → Fin n) (hσ : Function.Bijective σ) :
    Set.range (v ∘ σ) = Set.range v := hσ.surjective.range_comp v

/-- Of a falling row let only the first appearance of each value stand, the others made minus infinity, and sort it
    again: it then holds the row's greatest different values in order. -/
theorem distinct_best {n : ℕ} (s u : Fin n → EReal) (hs : Antitone s) (hu0 : ∀ h : 0 < n, u ⟨0, h⟩ = s ⟨0, h⟩)
    (hu : ∀ (j : ℕ) (h : j + 1 < n), u ⟨j + 1, h⟩ = if s ⟨j + 1, h⟩ = s ⟨j, j.lt_succ_self.trans h⟩ then ⊥ else s ⟨j + 1, h⟩)
    (τ : Fin n → Fin n) (hτ : Function.Bijective τ) (hw : Antitone (u ∘ τ)) (j : Fin n) : u (τ j) = best (Set.range s) j := by
  -- what stands is the row's own value, and what does not appear before
  have stands : ∀ q, u q ≠ ⊥ → u q = s q ∧ ∀ p < q, s p ≠ s q := by
    rintro ⟨q, hq⟩ hne
    cases q with
    | zero => exact ⟨hu0 hq, fun p hp => absurd hp (Nat.not_lt_zero _)⟩
    | succ q =>
      rw [hu q hq] at hne ⊢
      by_cases h : s ⟨q + 1, hq⟩ = s ⟨q, q.lt_succ_self.trans hq⟩
      · exact absurd (if_pos h) hne
      · refine ⟨if_neg h, fun p hp he => h ?_⟩
        exact le_antisymm (hs (Fin.mk_le_mk.mpr q.le_succ)) (he ▸ hs (Fin.le_def.mpr (Nat.le_of_lt_succ hp)))
  have first : ∀ (q : ℕ) (hq : q < n), ∃ p, u p = s ⟨q, hq⟩ := by
    intro q
    induction q with
    | zero => exact fun hq => ⟨_, hu0 hq⟩
    | succ q ih =>
      intro hq
      by_cases h : s ⟨q + 1, hq⟩ = s ⟨q, q.lt_succ_self.trans hq⟩
      · rw [h]; exact ih _
      · exact ⟨_, (hu q hq).trans (if_neg h)⟩
  have hr : best (Set.range u) j = best (Set.range s) j := by
    refine best_congr (fun x hx => ⟨?_, ?_⟩) j
    · rintro ⟨q, rfl⟩
      exact ⟨q, (stands q hx).1.symm⟩
    · rintro ⟨q, rfl⟩
      exact first q.val q.isLt
  rw [← hr, ← range_arranged u τ hτ]
  refine best_of_falling (u ∘ τ) hw n (fun i h _ => ?_) j.val j.isLt j.isLt
  by_contra hc
  rw [not_or, not_lt] at hc
  have he : u (τ ⟨i + 1, h⟩) = u (τ ⟨i, i.lt_succ_self.trans h⟩) := le_antisymm (hw (Fin.mk_le_mk.mpr i.le_succ)) hc.1
  have hb : u (τ ⟨i + 1, h⟩) ≠ ⊥ := hc.2
  have hb' : u (τ ⟨i, i.lt_succ_self.trans h⟩) ≠ ⊥ := he ▸ hb
  have hne : τ ⟨i + 1, h⟩ ≠ τ ⟨i, i.lt_succ_self.trans h⟩ := fun hh => by
    have := congrArg Fin.val (hτ.injective hh)
    simp at this
  have hss := (stands _ hb).1.symm.trans (he.trans (stands _ hb').1)
  rcases lt_or_gt_of_ne hne with hl | hl
  · exact (stands _ hb').2 _ hl hss
  · exact (stands _ hb).2 _ hl hss.symm

/-- A row sorted upwards whose last eight entries differ from one another, or are minus infinity where they do not, and
    the row rearranged so that it never rises: the first eight of the latter are the greatest different values. -/
theorem plain_best {n : ℕ} (v : Fin n → EReal) (σ τ : Fin n → Fin n) (hσ : Function.Bijective σ) (hτ : Function.Bijective τ)
    (up : Monotone (v ∘ σ)) (down : Antitone (v ∘ τ)) (N : ℕ)
    (hd : ∀ (j : ℕ) (h : j + 1 < n), j + 1 < N →
      v (σ ⟨n - 1 - (j + 1), by omega⟩) ≠ v (σ ⟨n - 1 - j, by omega⟩) ∨ v (σ ⟨n - 1 - (j + 1), by omega⟩) = ⊥)
    (j : Fin n) (hj : j.val < N) : v (τ j) = best (Set.range v) j := by
  have hrev : Function.Bijective (Fin.rev : Fin n → Fin n) := Fin.rev_bijective
  have hre : ∀ (j : ℕ) (h : j < n), Fin.rev (⟨j, h⟩ : Fin n) = ⟨n - 1 - j, by omega⟩ := fun j h => Fin.ext (by simp [Fin.val_rev]; omega)
  have down' : Antitone (v ∘ (σ ∘ Fin.rev)) := fun a b hab => up (Fin.rev_le_rev.mpr hab)
  have same := falling_unique v τ (σ ∘ Fin.rev) hτ (hσ.comp hrev) down down'
  have := best_of_falling (v ∘ (σ ∘ Fin.rev)) down' N (fun i h hi => ?_) j.val j.isLt hj
  · rw [← same, range_arranged v τ hτ] at this
    exact this
  · have hle : (v ∘ (σ ∘ Fin.rev)) ⟨i + 1, h⟩ ≤ (v ∘ (σ ∘ Fin.rev)) ⟨i, i.lt_succ_self.trans h⟩ := down' (Fin.mk_le_mk.mpr i.le_succ)
    simp only [Function.comp_apply, hre] at hle ⊢
    exact (hd i h hi).imp (fun hne => lt_of_le_of_ne hle hne) id

end Cert.Best

end
-- ==== Proof.Distinct.lean ====
/-
What the program `distinct` computes: of each row the eight greatest different values.
-/
module

public import proofs.«01_k».proof.Proof.Sorted
public import proofs.«01_k».proof.Proof.Gen.DistinctIdeal.Run
public import Idealize.ShloMosaic.Lib.Pointwise

@[expose] public section

noncomputable section

namespace Cert.Distinct

open Cert.DistinctIdeal Cert.DistinctIdeal.Gen Cert.Best
open Idealize.ShloMosaic

/-- The order the program sorts by. -/
theorem order (a b : EReal) : comparator_f32_d1 (F := Ideal) a b = 1#1 ↔ a < b := by
  have h : comparator_f32_d1 (F := Ideal) a b = FloatOps.cmpfTotal (F := Ideal) (φ := .f32) .lt
      (Scalar.select (FloatOps.cmpf (F := Ideal) (φ := .f32) .une a a) (FloatOps.ofBits (F := Ideal) .f32 0x7FC00000#32)
        (Scalar.select (FloatOps.cmpf (F := Ideal) (φ := .f32) .oeq a (FloatOps.ofBits .f32 0x00000000#32)) (FloatOps.ofBits (F := Ideal) .f32 0x00000000#32) a))
      (Scalar.select (FloatOps.cmpf (F := Ideal) (φ := .f32) .une b b) (FloatOps.ofBits (F := Ideal) .f32 0x7FC00000#32)
        (Scalar.select (FloatOps.cmpf (F := Ideal) (φ := .f32) .oeq b (FloatOps.ofBits .f32 0x00000000#32)) (FloatOps.ofBits (F := Ideal) .f32 0x00000000#32) b)) := rfl
  rw [h, canon, canon, total_lt]

/-- A row in falling order, as the program finds it; -/
def falling (x : FVec Ideal S256x32768 .f32) : FVec Ideal S256x32768 .f32 :=
  Host.negf (Host.sort S256x32768 1 comparator_f32_d1 (Host.negf x))

/-- the row with only the first appearance of each value; -/
def firsts (s : FVec Ideal S256x32768 .f32) : FVec Ideal S256x32768 .f32 :=
  select (concatenate S256x32768 1 [⟨S256x1, broadcastInDim S256x1 ![] bcast_S_S256x1 (constantI S_ 1 1#1)⟩,
      ⟨S256x32767, cmpf .une (extractStridedSlice S256x32767 ![0, 1] s slices_S256x32768_S256x32767_0_1)
        (extractStridedSlice S256x32767 ![0, 0] s slices_S256x32768_S256x32767_0_0)⟩] concatenates_S256x1_S256x32767_S256x32768_d1)
    s (broadcastInDim S256x32768 ![] bcast_S_S256x32768 (id (constant S_ .f32 0xFF800000#32)))

/-- and the program's result. -/
def result (x : FVec Ideal S256x32768 .f32) : FVec Ideal S256x8 .f32 :=
  extractStridedSlice S256x8 ![0, 0] (falling (firsts (falling x))) slices_S256x32768_S256x8_0_0

/-- The first entry of a row is kept; -/
theorem firsts_zero (s : FVec Ideal S256x32768 .f32) (r : Fin 256) : firsts s (ix2 r ⟨0, by decide⟩) = s (ix2 r ⟨0, by decide⟩) := by
  pointwise [firsts]

/-- a later one is kept unless it equals the one before it, and is minus infinity then. -/
theorem firsts_succ (s : FVec Ideal S256x32768 .f32) (r : Fin 256) (j : ℕ) (h : j + 1 < 32768) :
    firsts s (ix2 r ⟨j + 1, h⟩)
      = if s (ix2 r ⟨j + 1, h⟩) = s (ix2 r ⟨j, j.lt_succ_self.trans h⟩) then (⊥ : EReal) else s (ix2 r ⟨j + 1, h⟩) := by
  have hb : (id (constant (F := Ideal) S_ .f32 0xFF800000#32) ix0 : EReal) = ⊥ := by
    show Ideal.ofBits .f32 0xFF800000#32 = ⊥
    simp [Ideal.ofBits, Ideal.ieee]
  have h1 : ∀ p, (⟨1 + (j + 1 - 1), p⟩ : Fin 32768) = ⟨j + 1, h⟩ := fun _ => Fin.ext (by show 1 + (j + 1 - 1) = j + 1; omega)
  have h2 : ∀ p, (⟨j + 1 - 1, p⟩ : Fin 32768) = ⟨j, j.lt_succ_self.trans h⟩ := fun _ => Fin.ext (by show j + 1 - 1 = j; omega)
  pointwise [firsts]
  rw [dif_neg (by omega), h1, h2, hb]
  by_cases he : s (ix2 r ⟨j + 1, h⟩) = s (ix2 r ⟨j, j.lt_succ_self.trans h⟩) <;> simp [he, Scalar.select]

/-- The program's result is the eight greatest different values of each row. -/
theorem result_apply (x : FVec Ideal S256x32768 .f32) (r : Fin 256) (k : Fin 8) :
    result x (ix2 r k) = best (Set.range fun q : Fin 32768 => x (ix2 r q)) k := by
  obtain ⟨σ, hσ, ha, hs⟩ := falling_row (comparator_f32_d1 (F := Ideal)) order x r
  obtain ⟨τ, hτ, hb, hw⟩ := falling_row (comparator_f32_d1 (F := Ideal)) order (firsts (falling x)) r
  have hr : result x (ix2 r k) = falling (firsts (falling x)) (ix2 r ⟨k.val, by have := k.isLt; omega⟩) := by
    pointwise [result]
  have hrow : (fun j : Fin 32768 => falling x (ix2 r j)) = (fun j => x (ix2 r j)) ∘ σ := funext hs
  rw [hr, show falling (firsts (falling x)) (ix2 r ⟨k.val, by have := k.isLt; omega⟩) = _ from hw _]
  have := distinct_best (fun j : Fin 32768 => falling x (ix2 r j)) (fun j => firsts (falling x) (ix2 r j)) (hrow ▸ ha)
    (fun _ => firsts_zero _ r) (fun j h => firsts_succ _ r j h) τ hτ hb ⟨k.val, by have := k.isLt; omega⟩
  rw [hrow, range_arranged _ σ hσ] at this
  exact this

end Cert.Distinct

end
-- ==== Proof.Plain.lean ====
/-
What the reference computes: of each row the entries at the first eight places of its falling order, which are its
eight greatest different values where those places hold different entries.
-/
module

public import proofs.«01_k».proof.Proof.Sorted
public import proofs.«01_k».proof.Proof.Gen.ReferenceIdeal.Run
public import proofs.«01_k».proof.Proof.Gen.Pre_eight_differ
public import Idealize.ShloMosaic.Lib.Pointwise

@[expose] public section

noncomputable section

namespace Cert.Plain

open Cert.ReferenceIdeal Cert.ReferenceIdeal.Gen Cert.Best
open Idealize.ShloMosaic

/-- The order the reference sorts by, of a number and its place: by the number. -/
theorem order (a b : EReal × BitVec 32) : comparator_f32_i32_d1 (F := Ideal) a b = 1#1 ↔ a.1 < b.1 := by
  have h : comparator_f32_i32_d1 (F := Ideal) a b = FloatOps.cmpfTotal (F := Ideal) (φ := .f32) .lt
      (Scalar.select (FloatOps.cmpf (F := Ideal) (φ := .f32) .une a.1 a.1) (FloatOps.ofBits (F := Ideal) .f32 0x7FC00000#32)
        (Scalar.select (FloatOps.cmpf (F := Ideal) (φ := .f32) .oeq a.1 (FloatOps.ofBits .f32 0x00000000#32)) (FloatOps.ofBits (F := Ideal) .f32 0x00000000#32) a.1))
      (Scalar.select (FloatOps.cmpf (F := Ideal) (φ := .f32) .une b.1 b.1) (FloatOps.ofBits (F := Ideal) .f32 0x7FC00000#32)
        (Scalar.select (FloatOps.cmpf (F := Ideal) (φ := .f32) .oeq b.1 (FloatOps.ofBits .f32 0x00000000#32)) (FloatOps.ofBits (F := Ideal) .f32 0x00000000#32) b.1)) := rfl
  rw [h, canon, canon, total_lt]

/-- The order the condition sorts by. -/
theorem order' (a b : EReal) : Cert.Pre_eight_differ.comparator_f32_d1 (F := Ideal) a b = 1#1 ↔ a < b := by
  have h : Cert.Pre_eight_differ.comparator_f32_d1 (F := Ideal) a b = FloatOps.cmpfTotal (F := Ideal) (φ := .f32) .lt
      (Scalar.select (FloatOps.cmpf (F := Ideal) (φ := .f32) .une a a) (FloatOps.ofBits (F := Ideal) .f32 0x7FC00000#32)
        (Scalar.select (FloatOps.cmpf (F := Ideal) (φ := .f32) .oeq a (FloatOps.ofBits .f32 0x00000000#32)) (FloatOps.ofBits (F := Ideal) .f32 0x00000000#32) a))
      (Scalar.select (FloatOps.cmpf (F := Ideal) (φ := .f32) .une b b) (FloatOps.ofBits (F := Ideal) .f32 0x7FC00000#32)
        (Scalar.select (FloatOps.cmpf (F := Ideal) (φ := .f32) .oeq b (FloatOps.ofBits .f32 0x00000000#32)) (FloatOps.ofBits (F := Ideal) .f32 0x00000000#32) b)) := rfl
  rw [h, canon, canon, total_lt]

/-- The first eight places of each row's falling order, as the reference finds them; -/
def places (x : FVec Ideal S256x32768 .f32) : IVec S256x8 32 :=
  extractStridedSlice S256x8 ![0, 0] ((Host.sort2 S256x32768 1 comparator_f32_i32_d1 (Host.negf x) (iotaInDim S256x32768 32 1)).2) slices_S256x32768_S256x8_0_0

/-- counted from the end where negative; -/
def wrapped (p : IVec S256x8 32) : IVec S256x8x1 32 :=
  shapeCast S256x8x1 (select (cmpi .slt p (broadcastInDim S256x8 ![] bcast_S_S256x8 (constantI S_ 32 0#32)))
    (addi p (broadcastInDim S256x8 ![] bcast_S_S256x8 (constantI S_ 32 32768#32))) p) shapeCasts_S256x8_S256x8x1

/-- which of them are in the row; -/
def inside (q : IVec S256x8x1 32) : IVec S256x8x1 1 :=
  andi (cmpi .sge q (broadcastInDim S256x8x1 ![] bcast_S_S256x8x1 (constantI S_ 32 0#32)))
    (cmpi .sle q (broadcastInDim S256x8x1 ![0, 1, 2] bcast_S1x1x1_S256x8x1_0_1_2 (broadcastInDim S1x1x1 ![2] bcast_S1_S1x1x1_2 (constantI S1 32 32767#32))))

/-- and the reference's result. -/
def result (x : FVec Ideal S256x32768 .f32) : FVec Ideal S256x8 .f32 :=
  select (Host.reduce IntOp.andi (inside (wrapped (places x))) (constantI S_ 1 1#1) reducesTo_S256x8x1_S256x8_d2 h_S_)
    (Host.gather gather_S256x32768_S256x8x1_S256x8_n_1_0_0_1_2_11 x (wrapped (places x)))
    (broadcastInDim S256x8 ![] bcast_S_S256x8 (constant S_ .f32 0x7FC00000#32))

/-- A place of a row, as a word: -/
theorem word_facts (n : Fin 32768) : (BitVec.ofNat 32 n.val).slt 0#32 = false ∧ (0#32).sle (BitVec.ofNat 32 n.val) = true
    ∧ (BitVec.ofNat 32 n.val).sle 32767#32 = true ∧ (BitVec.ofNat 32 n.val).toInt.toNat = n.val := by
  have hn := n.isLt
  have hi : (BitVec.ofNat 32 n.val).toInt = n.val := by
    rw [BitVec.toInt_eq_toNat_cond, BitVec.toNat_ofNat, Nat.mod_eq_of_lt (by omega), if_pos (by omega)]
  have h2 : (32767#32 : BitVec 32).toInt = 32767 := by decide
  have h0 : (0#32 : BitVec 32).toInt = 0 := by decide
  simp only [BitVec.slt, BitVec.sle, hi, h2, h0]
  refine ⟨by simp, by simp, ?_, by simp⟩
  simp only [decide_eq_true_eq]
  omega

/-- where every place is one of the row, none is changed; -/
theorem wrapped_apply (p : IVec S256x8 32) (r : Fin 256) (k : Fin 8) (z : Fin 1) (n : Fin 32768)
    (h : p (ix2 r k) = BitVec.ofNat 32 n.val) : wrapped p (ix3 r k z) = BitVec.ofNat 32 n.val := by
  have : wrapped p (ix3 r k z) = Scalar.select (IntOp.cmpi .slt (p (ix2 r k)) 0#32) (IntOp.addi (p (ix2 r k)) 32768#32) (p (ix2 r k)) := by
    unfold wrapped
    pointwise []
  have hc : IntOp.cmpi .slt (BitVec.ofNat 32 n.val) 0#32 = BitVec.ofBool ((BitVec.ofNat 32 n.val).slt 0#32) := rfl
  rw [this, h, hc, (word_facts n).1]
  rfl

/-- each is inside; -/
theorem inside_apply (q : IVec S256x8x1 32) (i : S256x8x1.Idx) (n : Fin 32768) (h : q i = BitVec.ofNat 32 n.val) : inside q i = 1#1 := by
  have : inside q i = IntOp.andi (BitVec.ofBool ((0#32).sle (q i))) (BitVec.ofBool ((q i).sle 32767#32)) := by
    rfl
  rw [this, h, (word_facts n).2.1, (word_facts n).2.2.1]
  rfl

/-- a conjunction of ones is one; -/
theorem all_ones (b : IVec S256x8x1 1) (hb : ∀ i, b i = 1#1) (j : S256x8.Idx) :
    Host.reduce IntOp.andi b (constantI S_ 1 1#1) reducesTo_S256x8x1_S256x8_d2 h_S_ j = 1#1 := by
  unfold Host.reduce
  simp only [hb]
  generalize List.filter _ _ = l
  have h1 : (constantI S_ 1 1#1) (Shape.Idx.first h_S_) = 1#1 := rfl
  rw [h1]
  induction l with
  | nil => rfl
  | cons a l ih => exact ih

/-- and the entry at a place is read there. -/
theorem gather_apply (x : FVec Ideal S256x32768 .f32) (q : IVec S256x8x1 32) (r : Fin 256) (k : Fin 8) (n : Fin 32768)
    (h : q (ix3 r k 0) = BitVec.ofNat 32 n.val) :
    Host.gather gather_S256x32768_S256x8x1_S256x8_n_1_0_0_1_2_11 x q (ix2 r k) = x (ix2 r n) := by
  set D := gather_S256x32768_S256x8x1_S256x8_n_1_0_0_1_2_11 with hD
  unfold Host.gather
  refine congrArg x (funext fun a => Fin.ext ?_)
  show D.start (ix2 r k) q a + D.batchCoord (ix2 r k) a + D.offCoord (ix2 r k) a = (ix2 r n a).val
  match a with
  | ⟨0, _⟩ =>
    have hb : D.batchCoord (ix2 r k) 0 = r.val := by
      unfold GatherDims.batchCoord
      rw [dif_pos (show (0 : Fin 2) ∈ D.operandBatchingDims from List.mem_singleton.mpr rfl)]
      rfl
    have hs : D.start (ix2 r k) q 0 = 0 := GatherDims.start_batching _ _ _ _ (List.mem_singleton.mpr rfl)
    have ho : D.offCoord (ix2 r k) 0 = 0 :=
      GatherDims.offCoord_eq_zero _ _ _ (fun h => ((GatherDims.mem_sKept _ _).mp h).2 (List.mem_singleton.mpr rfl))
    show D.start (ix2 r k) q 0 + D.batchCoord (ix2 r k) 0 + D.offCoord (ix2 r k) 0 = r.val
    rw [hb, hs, ho, Nat.zero_add, Nat.add_zero]
  | ⟨1, _⟩ =>
    have hb : D.batchCoord (ix2 r k) 1 = 0 := GatherDims.batchCoord_eq_zero _ _ _ (fun h => by
      exact absurd (List.mem_singleton.mp h) (by decide))
    have ho : D.offCoord (ix2 r k) 1 = 0 :=
      GatherDims.offCoord_eq_zero _ _ _ (fun h => ((GatherDims.mem_sKept _ _).mp h).1 (List.mem_singleton.mpr rfl))
    have hs : D.start (ix2 r k) q 1 = n.val := by
      unfold GatherDims.start
      rw [dif_pos (show (1 : Fin 2) ∈ D.startIndexMap from List.mem_singleton.mpr rfl)]
      have hat : D.siIdx (ix2 r k) ⟨List.idxOf (1 : Fin 2) D.startIndexMap, List.idxOf_lt_length_iff.mpr (List.mem_singleton.mpr rfl)⟩ = ix3 r k 0 := by
        funext d
        match d with
        | ⟨0, _⟩ => rfl
        | ⟨1, _⟩ => rfl
        | ⟨2, _⟩ => rfl
      rw [hat, h, (word_facts n).2.2.2]
      exact min_eq_left (by have := n.isLt; show n.val ≤ 32768 - 1; omega)
    show D.start (ix2 r k) q 1 + D.batchCoord (ix2 r k) 1 + D.offCoord (ix2 r k) 1 = n.val
    rw [hb, hs, ho]
    rfl

/-- The reference's result is the row at the first eight places of an order in which it never rises. -/
theorem result_row (x : FVec Ideal S256x32768 .f32) :
    ∀ r : Fin 256, ∃ τ : Fin 32768 → Fin 32768, Function.Bijective τ ∧ Antitone ((fun j => x (ix2 r j)) ∘ τ)
      ∧ ∀ k : Fin 8, result x (ix2 r k) = x (ix2 r (τ ⟨k.val, by have := k.isLt; omega⟩)) := by
  choose τ hτ hm hp using sort2_row (comparator_f32_i32_d1 (F := Ideal)) (fun a => a) order (Host.negf x) (iotaInDim S256x32768 32 1)
  have hplace : ∀ (r : Fin 256) (k : Fin 8), places x (ix2 r k) = BitVec.ofNat 32 (τ r ⟨k.val, by have := k.isLt; omega⟩).val := by
    intro r k
    have : places x (ix2 r k) = (Host.sort2 S256x32768 1 comparator_f32_i32_d1 (Host.negf x) (iotaInDim S256x32768 32 1)).2
        (ix2 r ⟨k.val, by have := k.isLt; omega⟩) := by pointwise [places]
    exact this.trans (hp r _)
  have hwrap : ∀ (r : Fin 256) (k : Fin 8) (z : Fin 1), wrapped (places x) (ix3 r k z) = BitVec.ofNat 32 (τ r ⟨k.val, by have := k.isLt; omega⟩).val :=
    fun r k z => wrapped_apply _ r k z _ (hplace r k)
  intro r
  refine ⟨τ r, hτ r, fun i j hij => EReal.neg_le_neg_iff.mp (hm r hij), fun k => ?_⟩
  have hones := all_ones (inside (wrapped (places x))) (fun i => by
    have hi : i = ix3 (i 0) (i 1) (i 2) := by funext a; fin_cases a <;> rfl
    rw [hi]
    exact inside_apply _ _ _ (hwrap _ _ _)) (ix2 r k)
  have : result x (ix2 r k) = Scalar.select
      (Host.reduce IntOp.andi (inside (wrapped (places x))) (constantI S_ 1 1#1) reducesTo_S256x8x1_S256x8_d2 h_S_ (ix2 r k))
      (Host.gather gather_S256x32768_S256x8x1_S256x8_n_1_0_0_1_2_11 x (wrapped (places x)) (ix2 r k))
      (broadcastInDim S256x8 ![] bcast_S_S256x8 (constant (F := Ideal) S_ .f32 0x7FC00000#32) (ix2 r k)) := rfl
  rw [this, hones, gather_apply x _ r k _ (hwrap r k 0)]
  rfl

/-- What the condition says of a row: in an upward order of it, of its last eight places any two that follow one another
    hold different entries, or the lower is minus infinity. -/
theorem condition_row (x : FVec Ideal S256x32768 .f32) (h : Cert.Pre_eight_differ.fn (F := Ideal) x = fun _ => 1#1) (r : Fin 256) :
    ∃ σ : Fin 32768 → Fin 32768, Function.Bijective σ ∧ Monotone ((fun j => x (ix2 r j)) ∘ σ)
      ∧ ∀ (j : ℕ) (hj : j < 7), x (ix2 r (σ ⟨32760 + j, by omega⟩)) ≠ x (ix2 r (σ ⟨32761 + j, by omega⟩)) ∨ x (ix2 r (σ ⟨32760 + j, by omega⟩)) = (⊥ : EReal) := by
  obtain ⟨σ, hσ, hm, hs⟩ := sort_row (Cert.Pre_eight_differ.comparator_f32_d1 (F := Ideal)) (fun a => a) order' x r
  refine ⟨σ, hσ, hm, fun j hj => ?_⟩
  have hb : (constant (F := Ideal) (⟨0, ![]⟩ : Shape) .f32 0xFF800000#32 ix0 : EReal) = ⊥ := by
    show Ideal.ofBits .f32 0xFF800000#32 = ⊥
    simp [Ideal.ofBits, Ideal.ieee]
  have h1 := congrFun h (ix2 r ⟨j, hj⟩)
  simp only [Cert.Pre_eight_differ.fn, Cert.Pre_eight_differ.fn_sort] at h1
  pointwise [] at h1
  have hb' : (Ideal.ofBits .f32 0xFF800000#32 : EReal) = ⊥ := hb
  have e1 := hs ⟨32760 + j, by omega⟩
  have e2 := hs ⟨32761 + j, by omega⟩
  rw [hb'] at h1
  by_contra hn
  obtain ⟨n1, n2⟩ := not_or.mp hn
  rw [← e1, ← e2] at n1
  rw [← e1] at n2
  rw [decide_eq_false n1, decide_eq_false n2] at h1
  exact absurd h1 (by decide)

/-- Where it holds, the reference's result is the eight greatest different values of each row. -/
theorem result_apply (x : FVec Ideal S256x32768 .f32) (h : Cert.Pre_eight_differ.fn (F := Ideal) x = fun _ => 1#1) (r : Fin 256) (k : Fin 8) :
    result x (ix2 r k) = best (Set.range fun q : Fin 32768 => x (ix2 r q)) k := by
  obtain ⟨τ, hτ, hd, ht⟩ := result_row x r
  obtain ⟨σ, hσ, hu, hs⟩ := condition_row x h r
  rw [ht k]
  refine plain_best (fun j : Fin 32768 => x (ix2 r j)) σ τ hσ hτ hu hd 8 (fun j hj hj8 => ?_) ⟨k.val, by have := k.isLt; omega⟩ k.isLt
  have := hs (6 - j) (by omega)
  have e1 : (⟨32760 + (6 - j), by omega⟩ : Fin 32768) = ⟨32768 - 1 - (j + 1), by omega⟩ := Fin.ext (by show 32760 + (6 - j) = 32768 - 1 - (j + 1); omega)
  have e2 : (⟨32761 + (6 - j), by omega⟩ : Fin 32768) = ⟨32768 - 1 - j, by omega⟩ := Fin.ext (by show 32761 + (6 - j) = 32768 - 1 - j; omega)
  rw [e1, e2] at this
  exact this

end Cert.Plain

end
-- ==== Proof.lean ====
/-
The claims of this certificate, put together from the modules that prove them.
-/
module

public import proofs.«01_k».proof.Defs
public import proofs.«01_k».proof.Proof.Frames
public import proofs.«01_k».proof.Proof.Result
public import proofs.«01_k».proof.Proof.Distinct
public import proofs.«01_k».proof.Proof.Plain
public import proofs.«01_k».proof.Proof.Gen.Kernel
public import proofs.«01_k».proof.Proof.Gen.KernelIdeal
public import proofs.«01_k».proof.Proof.Gen.ReferenceIdeal.Run
public import proofs.«01_k».proof.Proof.Gen.DistinctIdeal.Run
public import proofs.«01_k».proof.Proof.Gen.Pre_eight_differ

@[expose] public section

noncomputable section

namespace Cert.Proof

open Idealize.ShloMosaic Idealize.ShloMosaic.TcCoe Idealize.SL Idealize.SL.Sem

/-- The reference ends, its argument as it was and every semaphore at zero. -/
theorem frame_reference : Cert.quiescent_ReferenceIdeal := by
  intro m ρ _
  exact (θ_run Cert.ReferenceIdeal.defs _ _).mono (fun r h => ⟨fun c => (h c).2, sem_eq_zero_of_no_sems (by decide) r.2⟩)
    (Cert.ReferenceIdeal.Value.run (F := Ideal) m ρ)

/-- So does the program of the eight greatest different values. -/
theorem frame_distinct : Cert.quiescent_DistinctIdeal := by
  intro m ρ _
  exact (θ_run Cert.DistinctIdeal.defs _ _).mono (fun r h => ⟨fun c => (h c).2, sem_eq_zero_of_no_sems (by decide) r.2⟩)
    (Cert.DistinctIdeal.Value.run (F := Ideal) m ρ)

/-- The reference's run, with its result named. -/
theorem run_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v3)
            = Cert.Plain.result (m ((c.tc : Thread Cert.ReferenceIdeal.nD Cert.ReferenceIdeal.τ).loc Cert.ReferenceIdeal.main_arg0))
          ∧ r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)) :=
  Cert.ReferenceIdeal.Value.run (F := Ideal) m ρ

/-- The run of the program of different values, with its result named. -/
theorem run_distinct (m : (ℓ : Loc Cert.DistinctIdeal.nD Cert.DistinctIdeal.τ Cert.DistinctIdeal.sig) → Buf (Elt Ideal) ℓ)
    (ρ : Dev Cert.DistinctIdeal.nD → PrngReg) :
    θ_run (Cert.DistinctIdeal.defs (F := Ideal)) (onTc (τ := Cert.DistinctIdeal.τ) (Cert.DistinctIdeal.main (F := Ideal))) ⟨m, fun _ => 0, ρ⟩
      (fun r => ∀ c : Dev Cert.DistinctIdeal.nD,
        r.2.mem ((c.tc : Thread Cert.DistinctIdeal.nD Cert.DistinctIdeal.τ).loc Cert.DistinctIdeal.main_v12)
            = Cert.Distinct.result (m ((c.tc : Thread Cert.DistinctIdeal.nD Cert.DistinctIdeal.τ).loc Cert.DistinctIdeal.main_arg0))
          ∧ r.2.mem ((c.tc : Thread Cert.DistinctIdeal.nD Cert.DistinctIdeal.τ).loc Cert.DistinctIdeal.main_arg0)
            = m ((c.tc : Thread Cert.DistinctIdeal.nD Cert.DistinctIdeal.τ).loc Cert.DistinctIdeal.main_arg0)) :=
  Cert.DistinctIdeal.Value.run (F := Ideal) m ρ

/-- Two arrays of eight columns are one where they agree at every row and column. -/
theorem by_rows {u v : (⟨2, ![256, 8]⟩ : Shape).Idx → EReal} (h : ∀ (r : Fin 256) (k : Fin 8), u (ix2 r k) = v (ix2 r k)) : u = v := by
  funext i
  have hi : i = ix2 (i 0) (i 1) := by funext a; fin_cases a <;> rfl
  rw [hi]
  exact h _ _

/-- On every device the kernel ends with the eight greatest different values of each row of the whole array. -/
theorem kernel_distinct : Cert.algebraic_KernelIdeal_DistinctIdeal := by
  intro m g m' g' _ hx
  refine ⟨Cert.Distinct.result (m' (((0 : Dev Cert.DistinctIdeal.nD).tc : Thread Cert.DistinctIdeal.nD Cert.DistinctIdeal.τ).loc Cert.DistinctIdeal.main_arg0)), ?_,
    (θ_run _ _ _).mono (fun _ h => h 0) (run_distinct m' g')⟩
  refine (θ_run _ _ _).mono (fun r h c => ⟨(h.1 c (1 : Fin 2)).trans ((Cert.Exchange.result_at m c).trans (by_rows fun i k => ?_)),
    (h.1 c (0 : Fin 2)).trans (Cert.Exchange.finalA_x m c)⟩) (Cert.Exchange.run_main (F := Ideal) m g)
  exact (Cert.Exchange.outAt_whole m _ hx c i k).trans (Cert.Distinct.result_apply _ i k).symm

/-- Where the eight greatest entries of each row differ, the reference ends with the same. -/
theorem distinct_reference : Cert.algebraic_DistinctIdeal_ReferenceIdeal_pre_eight_differ := by
  intro m g m' g' hpre hx
  refine ⟨fun c => Cert.Distinct.result (m ((c.tc : Thread Cert.DistinctIdeal.nD Cert.DistinctIdeal.τ).loc Cert.DistinctIdeal.main_arg0)), run_distinct m g,
    (θ_run _ _ _).mono (fun _ h c => ⟨(h c).1.trans (by_rows fun i k => ?_), (h c).2⟩) (run_reference m' g')⟩
  rw [hx c]
  exact (Cert.Plain.result_apply _ (hpre c) i k).trans (Cert.Distinct.result_apply _ i k).symm

/-- Everything claimed. -/
theorem claim : Cert.Claim :=
  ⟨Cert.Kernel.Gen.facts, Cert.KernelIdeal.Gen.facts, Cert.DistinctIdeal.Gen.facts, Cert.ReferenceIdeal.Gen.facts, Cert.Pre_eight_differ.Gen.facts,
    Cert.Exchange.frame_bits, Cert.Exchange.frame_ideal, frame_distinct, fun m ρ _ => frame_distinct m ρ trivial,
    frame_reference, fun m ρ _ => frame_reference m ρ trivial, trivial, kernel_distinct, distinct_reference⟩

end Cert.Proof

end
